-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def preserves_Gqa_GqaIdeal : Prop :=
  IdealRules.named_const.Statement Cert.GqaIdeal.κ "qk_scale" .f32 0x3E38AA3B#32 (((Real.log 256)⁻¹ : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v15)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v15) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v25) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v79_0)) (v1 : (c : Dev Cert.ProjIdeal.nD) → Buf (Elt Ideal) ((c.tc : Thread Cert.ProjIdeal.nD Cert.ProjIdeal.τ).loc Cert.ProjIdeal.main_v79_1)) (v2 : (c : Dev Cert.ProjIdeal.nD) → Buf (Elt Ideal) ((c.tc : Thread Cert.ProjIdeal.nD Cert.ProjIdeal.τ).loc Cert.ProjIdeal.main_v79_2)) (v3 : (c : Dev Cert.ProjIdeal.nD) → Buf (Elt Ideal) ((c.tc : Thread Cert.ProjIdeal.nD Cert.ProjIdeal.τ).loc Cert.ProjIdeal.main_v79_3)) (v4 : (c : Dev Cert.ProjIdeal.nD) → Buf (Elt Ideal) ((c.tc : Thread Cert.ProjIdeal.nD Cert.ProjIdeal.τ).loc Cert.ProjIdeal.main_v79_4)) (v5 : (c : Dev Cert.ProjIdeal.nD) → Buf (Elt Ideal) ((c.tc : Thread Cert.ProjIdeal.nD Cert.ProjIdeal.τ).loc Cert.ProjIdeal.main_v79_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v79_0) = v0 c
          ∧ r.2.mem ((c.tc : Thread Cert.ProjIdeal.nD Cert.ProjIdeal.τ).loc Cert.ProjIdeal.main_v79_1) = v1 c
          ∧ r.2.mem ((c.tc : Thread Cert.ProjIdeal.nD Cert.ProjIdeal.τ).loc Cert.ProjIdeal.main_v79_2) = v2 c
          ∧ r.2.mem ((c.tc : Thread Cert.ProjIdeal.nD Cert.ProjIdeal.τ).loc Cert.ProjIdeal.main_v79_3) = v3 c
          ∧ r.2.mem ((c.tc : Thread Cert.ProjIdeal.nD Cert.ProjIdeal.τ).loc Cert.ProjIdeal.main_v79_4) = v4 c
          ∧ r.2.mem ((c.tc : Thread Cert.ProjIdeal.nD Cert.ProjIdeal.τ).loc Cert.ProjIdeal.main_v79_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v189) = v0 c
          ∧ r.2.mem ((c.tc : Thread Cert.ProjRefIdeal.nD Cert.ProjRefIdeal.τ).loc Cert.ProjRefIdeal.main_v190) = v1 c
          ∧ r.2.mem ((c.tc : Thread Cert.ProjRefIdeal.nD Cert.ProjRefIdeal.τ).loc Cert.ProjRefIdeal.main_v191) = v2 c
          ∧ r.2.mem ((c.tc : Thread Cert.ProjRefIdeal.nD Cert.ProjRefIdeal.τ).loc Cert.ProjRefIdeal.main_v192) = v3 c
          ∧ r.2.mem ((c.tc : Thread Cert.ProjRefIdeal.nD Cert.ProjRefIdeal.τ).loc Cert.ProjRefIdeal.main_v193) = v4 c
          ∧ r.2.mem ((c.tc : Thread Cert.ProjRefIdeal.nD Cert.ProjRefIdeal.τ).loc Cert.ProjRefIdeal.main_v194) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def Claim : Prop :=
  ∃ (hGqa : Cert.Gqa.Facts) (hGqaIdeal : Cert.GqaIdeal.Facts) (hGqaRefIdeal : Cert.GqaRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_gqa_finite : Cert.Pre_gqa_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_gqa_finite.lean ====
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_

variable [Facts]

def fn {F : FTy → Type} [FloatOps F] (main_arg0 : FVec F S4x4096x512 .f32) (main_arg1 : FVec F S4x4096x128 .f32) (main_arg2 : FVec F S4x4096x128 .f32) (main_arg3 : FVec F S4x256x128 .f32) (main_arg4 : FVec F S4x256x128 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S4x256x128 .f32 := Host.absf main_arg3
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  let main_c_3 : IVec S_ 1 := constantI S_ 1 1#1
  let main_v12 : IVec S_ 1 := (fun x v => Host.reduce IntOp.andi x v reducesTo_S4x256x128_S_d0_1_2 h_S_) main_v11 main_c_3
  let main_v13 : IVec S_ 1 := andi main_v8 main_v12
  main_v13
-- ==== Gqa.lean ====
abbrev S4x4096x512 : Shape := ⟨3, ![4, 4096, 512]⟩
abbrev S4x4096x128 : Shape := ⟨3, ![4, 4096, 128]⟩
abbrev S4x256x128 : Shape := ⟨3, ![4, 256, 128]⟩
abbrev S4x4096x64 : Shape := ⟨3, ![4, 4096, 64]⟩
abbrev S4x4096x256 : Shape := ⟨3, ![4, 4096, 256]⟩
abbrev S4x16x256x128 : Shape := ⟨4, ![4, 16, 256, 128]⟩
abbrev S4x16x128x256 : Shape := ⟨4, ![4, 16, 128, 256]⟩
abbrev S4x256x64 : Shape := ⟨3, ![4, 256, 64]⟩
abbrev S4x256x256 : Shape := ⟨3, ![4, 256, 256]⟩
abbrev S4x1x256x128 : Shape := ⟨4, ![4, 1, 256, 128]⟩
abbrev S4x1x128x256 : Shape := ⟨4, ![4, 1, 128, 256]⟩
abbrev S1x1024x256 : Shape := ⟨3, ![1, 1024, 256]⟩
abbrev S1x4096x128 : Shape := ⟨3, ![1, 4096, 128]⟩
abbrev S1x16x64x256 : Shape := ⟨4, ![1, 16, 64, 256]⟩
abbrev S1x256x128 : Shape := ⟨3, ![1, 256, 128]⟩
abbrev S1x1x64x256 : Shape := ⟨4, ![1, 1, 64, 256]⟩
abbrev S4x128x1024 : Shape := ⟨3, ![4, 128, 1024]⟩
abbrev S1x256x256 : Shape := ⟨3, ![1, 256, 256]⟩
abbrev S256x256 : Shape := ⟨2, ![256, 256]⟩
abbrev S256x128 : Shape := ⟨2, ![256, 128]⟩
abbrev S512x128 : Shape := ⟨2, ![512, 128]⟩
abbrev S1024x128 : Shape := ⟨2, ![1024, 128]⟩
abbrev S128x1024 : Shape := ⟨2, ![128, 1024]⟩
abbrev S1x128x1024 : Shape := ⟨3, ![1, 128, 1024]⟩
abbrev S1x128x128 : Shape := ⟨3, ![1, 128, 128]⟩
abbrev S128x128 : Shape := ⟨2, ![128, 128]⟩
abbrev S64x256 : Shape := ⟨2, ![64, 256]⟩
abbrev S1024 : Shape := ⟨1, ![1024]⟩
abbrev S1x1024 : Shape := ⟨2, ![1, 1024]⟩
abbrev S16x256 : Shape := ⟨2, ![16, 256]⟩
abbrev S80x256 : Shape := ⟨2, ![80, 256]⟩
abbrev S256x1024 : Shape := ⟨2, ![256, 1024]⟩
abbrev S80x1024 : Shape := ⟨2, ![80, 1024]⟩
abbrev S64x1024 : Shape := ⟨2, ![64, 1024]⟩
abbrev S128x256 : Shape := ⟨2, ![128, 256]⟩

abbrev nBuf : Space → Nat
  | .hbm => 21
  | .vmem => 13
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S4x4096x512, .bf16⟩
  | .hbm, ⟨6, _⟩ => ⟨S4x4096x64, .f32⟩
  | .hbm, ⟨7, _⟩ => ⟨S4x4096x64, .f32⟩
  | .hbm, ⟨8, _⟩ => ⟨S4x4096x256, .f32⟩
  | .hbm, ⟨9, _⟩ => ⟨S4x4096x256, .bf16⟩
  | .hbm, ⟨10, _⟩ => ⟨S4x16x256x128, .f32⟩
  | .hbm, ⟨11, _⟩ => ⟨S4x16x128x256, .f32⟩
  | .hbm, ⟨12, _⟩ => ⟨S4x16x128x256, .bf16⟩
  | .hbm, ⟨13, _⟩ => ⟨S4x256x64, .f32⟩
  | .hbm, ⟨14, _⟩ => ⟨S4x256x64, .f32⟩
  | .hbm, ⟨15, _⟩ => ⟨S4x256x256, .f32⟩
  | .hbm, ⟨16, _⟩ => ⟨S4x256x256, .bf16⟩
  | .hbm, ⟨17, _⟩ => ⟨S4x1x256x128, .f32⟩
  | .hbm, ⟨18, _⟩ => ⟨S4x1x128x256, .f32⟩
  | .hbm, ⟨19, _⟩ => ⟨S4x1x128x256, .bf16⟩
  | .hbm, ⟨20, _⟩ => ⟨S4x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x64x256, .bf16⟩
  | .local _ .vmem, ⟨5, _⟩ => ⟨S1x16x64x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x64x256, .bf16⟩
  | .local _ .vmem, ⟨9, _⟩ => ⟨S1x1x64x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S4x128x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaIdeal.lean ====
variable {F : FTy → Type} [FloatOps F] [Named F]
def κ : String → Option EReal := fun
  | "qk_scale" => some (((Real.log 256)⁻¹ : ℝ) : EReal)
  | _ => none
-- ==== GqaRefIdeal.lean ====
abbrev S4x4096x512 : Shape := ⟨3, ![4, 4096, 512]⟩
abbrev S4x4096x128 : Shape := ⟨3, ![4, 4096, 128]⟩
abbrev S4x256x128 : Shape := ⟨3, ![4, 256, 128]⟩
abbrev S4x256x2x64 : Shape := ⟨4, ![4, 256, 2, 64]⟩
abbrev S4x4096x2x64 : Shape := ⟨4, ![4, 4096, 2, 64]⟩
abbrev S4x4352x2x64 : Shape := ⟨4, ![4, 4352, 2, 64]⟩
abbrev S4x4096x2x4x64 : Shape := ⟨5, ![4, 4096, 2, 4, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S4x256x2x64, .f32⟩
  | .hbm, ⟨6, _⟩ => ⟨S4x4096x2x64, .f32⟩
  | .hbm, ⟨7, _⟩ => ⟨S4x4352x2x64, .f32⟩
  | .hbm, ⟨8, _⟩ => ⟨S4x256x2x64, .f32⟩
  | .hbm, ⟨9, _⟩ => ⟨S4x4096x2x64, .f32⟩
  | .hbm, ⟨10, _⟩ => ⟨S4x4352x2x64, .f32⟩
  | .hbm, ⟨11, _⟩ => ⟨S4x4096x2x4x64, .f32⟩
  | .hbm, ⟨12, _⟩ => ⟨S4x2x4352x4096x4, .f32⟩
  | .hbm, ⟨13, _⟩ => ⟨S4x2x4x4096x4352, .f32⟩
  | .hbm, ⟨14, _⟩ => ⟨S_, .f32⟩
  | .hbm, ⟨15, _⟩ => ⟨S4x2x4x4096x4352, .f32⟩
  | .hbm, ⟨16, _⟩ => ⟨S4x2x4x4096x4352, .f32⟩
  | .hbm, ⟨17, _⟩ => ⟨S_, .f32⟩
  | .hbm, ⟨18, _⟩ => ⟨S4x2x4x4096, .f32⟩
  | .hbm, ⟨19, _⟩ => ⟨S_, .f32⟩
  | .hbm, ⟨20, _⟩ => ⟨S4x2x4x4096, .f32⟩
  | .hbm, ⟨21, _⟩ => ⟨S4x2x4x4096, .f32⟩
  | .hbm, ⟨22, _⟩ => ⟨S4x2x4x4096x1, .f32⟩
  | .hbm, ⟨23, _⟩ => ⟨S4x2x4x4096x4352, .f32⟩
  | .hbm, ⟨24, _⟩ => ⟨S4x2x4x4096x4352, .f32⟩
  | .hbm, ⟨25, _⟩ => ⟨S4x2x4x4096x4352, .f32⟩
  | .hbm, ⟨26, _⟩ => ⟨S_, .f32⟩
  | .hbm, ⟨27, _⟩ => ⟨S4x2x4x4096, .f32⟩
  | .hbm, ⟨28, _⟩ => ⟨S4x2x4x4096x1, .f32⟩
  | .hbm, ⟨29, _⟩ => ⟨S4x2x4x4096x4352, .f32⟩
  | .hbm, ⟨30, _⟩ => ⟨S4x2x4x4096x4352, .f32⟩
  | .hbm, ⟨31, _⟩ => ⟨S4x2x64x4x4096, .f32⟩
  | .hbm, ⟨32, _⟩ => ⟨S4x4096x2x4x64, .f32⟩
  | .hbm, ⟨33, _⟩ => ⟨S4x4096x512, .f32⟩
  | .hbm, ⟨34, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Merge.lean ====
abbrev S4x4096x512 : Shape := ⟨3, ![4, 4096, 512]⟩
abbrev S4x4096x1024 : Shape := ⟨3, ![4, 4096, 1024]⟩
abbrev S4x3072 : Shape := ⟨2, ![4, 3072]⟩
abbrev S2x1024 : Shape := ⟨2, ![2, 1024]⟩
abbrev S2x1024x5376 : Shape := ⟨3, ![2, 1024, 5376]⟩
abbrev S2x512x1024 : Shape := ⟨3, ![2, 512, 1024]⟩
abbrev S2x1024x1024 : Shape := ⟨3, ![2, 1024, 1024]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1x1024x5376 : Shape := ⟨3, ![1, 1024, 5376]⟩
abbrev S1x512x1024 : Shape := ⟨3, ![1, 512, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 25
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x3072, .f32⟩
  | .hbm, ⟨4, _⟩ => ⟨S2x1024, .f32⟩
  | .hbm, ⟨5, _⟩ => ⟨S2x1024x5376, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S2x1024x5376, .bf16⟩
  | .hbm, ⟨16, _⟩ => ⟨S2x512x1024, .bf16⟩
  | .hbm, ⟨17, _⟩ => ⟨S2x512x1024, .bf16⟩
  | .hbm, ⟨18, _⟩ => ⟨S2x1024x1024, .bf16⟩
  | .hbm, ⟨19, _⟩ => ⟨S4x4096x512, .bf16⟩
  | .hbm, ⟨20, _⟩ => ⟨S4x4096x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024x5376, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .bf16⟩
  | .local _ .vmem, ⟨17, _⟩ => ⟨S1x1024x1024, .f32⟩
  | .local _ .vmem, ⟨18, _⟩ => ⟨S1x1024x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5376 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S4x4096x512 : Shape := ⟨3, ![4, 4096, 512]⟩
abbrev S4x4096x1024 : Shape := ⟨3, ![4, 4096, 1024]⟩
abbrev S4x3072 : Shape := ⟨2, ![4, 3072]⟩
abbrev S2x1024 : Shape := ⟨2, ![2, 1024]⟩
abbrev S2x1024x5376 : Shape := ⟨3, ![2, 1024, 5376]⟩
abbrev S2x512x1024 : Shape := ⟨3, ![2, 512, 1024]⟩
abbrev S2x1024x1024 : Shape := ⟨3, ![2, 1024, 1024]⟩
abbrev S1x1024x5376 : Shape := ⟨3, ![1, 1024, 5376]⟩
abbrev S1024x5376 : Shape := ⟨2, ![1024, 5376]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5376 : Shape := ⟨3, ![4, 4096, 5376]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x3072, .f32⟩
  | .hbm, ⟨4, _⟩ => ⟨S2x1024, .f32⟩
  | .hbm, ⟨5, _⟩ => ⟨S2x1024x5376, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1x1024x5376, .f32⟩
  | .hbm, ⟨10, _⟩ => ⟨S1024x5376, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x1024x1024, .f32⟩
  | .hbm, ⟨16, _⟩ => ⟨S1024x1024, .f32⟩
  | .hbm, ⟨17, _⟩ => ⟨S1x1024, .f32⟩
  | .hbm, ⟨18, _⟩ => ⟨S1024, .f32⟩
  | .hbm, ⟨19, _⟩ => ⟨S4x1x3072, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S1x1x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x5376, .f32⟩
  | .hbm, ⟨47, _⟩ => ⟨S4x4096x512, .f32⟩
  | .hbm, ⟨48, _⟩ => ⟨S4x4096x512, .f32⟩
  | .hbm, ⟨49, _⟩ => ⟨S4x4096x1024, .f32⟩
  | .hbm, ⟨50, _⟩ => ⟨S4x4096x1024, .f32⟩
  | .hbm, ⟨51, _⟩ => ⟨S4x4096x512, .f32⟩
  | .hbm, ⟨52, _⟩ => ⟨S4x4096x512, .f32⟩
  | .hbm, ⟨53, _⟩ => ⟨S_, .f32⟩
  | .hbm, ⟨54, _⟩ => ⟨S4x4096x512, .f32⟩
  | .hbm, ⟨55, _⟩ => ⟨S4x4096x512, .f32⟩
  | .hbm, ⟨56, _⟩ => ⟨S_, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S4x4096x1024, .f32⟩
  | .hbm, ⟨62, _⟩ => ⟨S4x4096x512, .f32⟩
  | .hbm, ⟨63, _⟩ => ⟨S4x4096x512, .f32⟩
  | .hbm, ⟨64, _⟩ => ⟨S_, .f32⟩
  | .hbm, ⟨65, _⟩ => ⟨S4x4096x512, .f32⟩
  | .hbm, ⟨66, _⟩ => ⟨S4x4096x512, .f32⟩
  | .hbm, ⟨67, _⟩ => ⟨S_, .f32⟩
  | .hbm, ⟨68, _⟩ => ⟨S4x4096x512, .f32⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_3 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== Proj.lean ====
abbrev S4x4096x1024 : Shape := ⟨3, ![4, 4096, 1024]⟩
abbrev S4x3072 : Shape := ⟨2, ![4, 3072]⟩
abbrev S2x1024 : Shape := ⟨2, ![2, 1024]⟩
abbrev S2x1024x5376 : Shape := ⟨3, ![2, 1024, 5376]⟩
abbrev S2x64 : Shape := ⟨2, ![2, 64]⟩
abbrev S4x1024 : Shape := ⟨2, ![4, 1024]⟩
abbrev S4x1x1024 : Shape := ⟨3, ![4, 1, 1024]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S4x512 : Shape := ⟨2, ![4, 512]⟩
abbrev S1x1024 : Shape := ⟨2, ![1, 1024]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x4096x512 : Shape := ⟨3, ![4, 4096, 512]⟩
abbrev S4x32x512x128 : Shape := ⟨4, ![4, 32, 512, 128]⟩
abbrev S4x4096x256 : Shape := ⟨3, ![4, 4096, 256]⟩
abbrev S4x16x128x256 : Shape := ⟨4, ![4, 16, 128, 256]⟩
abbrev S1x1024x1024 : Shape := ⟨3, ![1, 1024, 1024]⟩
abbrev S1x1x1024 : Shape := ⟨3, ![1, 1, 1024]⟩
abbrev S1x1024x2304 : Shape := ⟨3, ![1, 1024, 2304]⟩
abbrev S1024x128 : Shape := ⟨2, ![1024, 128]⟩
abbrev S1x1024x512 : Shape := ⟨3, ![1, 1024, 512]⟩
abbrev S1x8x512x128 : Shape := ⟨4, ![1, 8, 512, 128]⟩
abbrev S1x1024x256 : Shape := ⟨3, ![1, 1024, 256]⟩
abbrev S1x4x128x256 : Shape := ⟨4, ![1, 4, 128, 256]⟩
abbrev S1024x1024 : Shape := ⟨2, ![1024, 1024]⟩
abbrev S1024x1 : Shape := ⟨2, ![1024, 1]⟩
abbrev S1024x512 : Shape := ⟨2, ![1024, 512]⟩
abbrev S1024x256 : Shape := ⟨2, ![1024, 256]⟩
abbrev S1x1024x128 : Shape := ⟨3, ![1, 1024, 128]⟩
abbrev S1x128 : Shape := ⟨2, ![1, 128]⟩
abbrev S128x128 : Shape := ⟨2, ![128, 128]⟩
abbrev S128x1024 : Shape := ⟨2, ![128, 1024]⟩
abbrev S128x256 : Shape := ⟨2, ![128, 256]⟩
abbrev S1x1x128x256 : Shape := ⟨4, ![1, 1, 128, 256]⟩
abbrev S512x1024 : Shape := ⟨2, ![512, 1024]⟩
abbrev S512x128 : Shape := ⟨2, ![512, 128]⟩
abbrev S1x1x512x128 : Shape := ⟨4, ![1, 1, 512, 128]⟩

abbrev nBuf : Space → Nat
  | .hbm => 151
  | .vmem => 26
  | .smem => 0
  | _ => 0

abbrev hbmTy0_0 (i : Nat) : BufTy := match i % 128 with
  | 0 => ⟨S4x4096x1024, .f32⟩
  | 1 => ⟨S4x3072, .f32⟩
  | 2 => ⟨S2x1024, .f32⟩
  | 3 => ⟨S2x1024x5376, .f32⟩
  | 4 => ⟨S2x64, .f32⟩
  | 5 => ⟨S2x64, .f32⟩
  | 6 => ⟨S2x64, .f32⟩
  | 7 => ⟨S2x64, .f32⟩
  | 8 => ⟨S4x1024, .f32⟩
  | 9 => ⟨S4x1x1024, .f32⟩
  | 10 => ⟨S4x1024, .f32⟩
  | 11 => ⟨S4x1x1024, .f32⟩
  | 12 => ⟨S4096, .i32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i32⟩
  | 32 => ⟨S4096, .i32⟩
  | 33 => ⟨S_, .i32⟩
  | 34 => ⟨S4096, .i32⟩
  | 35 => ⟨S4096, .i1⟩
  | 36 => ⟨S4096, .i1⟩
  | 37 => ⟨S_, .i32⟩
  | 38 => ⟨S4096, .i32⟩
  | 39 => ⟨S4096, .i32⟩
  | 40 => ⟨S4096, .i32⟩
  | 41 => ⟨S4096, .f32⟩
  | 42 => ⟨S4096x1, .f32⟩
  | 43 => ⟨S1x16, .f32⟩
  | 44 => ⟨S4096x16, .f32⟩
  | 45 => ⟨S4096x16, .f32⟩
  | 46 => ⟨S4096x16, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i1⟩
  | 61 => ⟨S_, .i32⟩
  | 62 => ⟨S_, .i1⟩
  | 63 => ⟨S4096, .i1⟩
  | 64 => ⟨S4096, .i1⟩
  | 65 => ⟨S4096, .i1⟩
  | 66 => ⟨S4096, .i32⟩
  | 67 => ⟨S4096, .i32⟩
  | 68 => ⟨S4096, .i32⟩
  | 69 => ⟨S4096, .f32⟩
  | 70 => ⟨S4096x1, .f32⟩
  | 71 => ⟨S1x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S4096x64, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x16, .f32⟩
  | 84 => ⟨S4096x64, .f32⟩
  | 85 => ⟨S1x4096x1x64, .f32⟩
  | 86 => ⟨S1x4096x2x64, .f32⟩
  | 87 => ⟨S4096x128, .f32⟩
  | 88 => ⟨S1x4096x1x64, .f32⟩
  | 89 => ⟨S1x4096x2x64, .f32⟩
  | 90 => ⟨S4096x128, .f32⟩
  | 91 => ⟨S1x64, .f32⟩
  | 92 => ⟨S64, .f32⟩
  | 93 => ⟨S1x64, .f32⟩
  | 94 => ⟨S8x64, .f32⟩
  | 95 => ⟨S512, .f32⟩
  | 96 => ⟨S1x64, .f32⟩
  | 97 => ⟨S64, .f32⟩
  | 98 => ⟨S1x64, .f32⟩
  | 99 => ⟨S8x64, .f32⟩
  | 100 => ⟨S512, .f32⟩
  | 101 => ⟨S1x64, .f32⟩
  | 102 => ⟨S64, .f32⟩
  | 103 => ⟨S1x64, .f32⟩
  | 104 => ⟨S8x64, .f32⟩
  | 105 => ⟨S512, .f32⟩
  | 106 => ⟨S1x64, .f32⟩
  | 107 => ⟨S64, .f32⟩
  | 108 => ⟨S1x64, .f32⟩
  | 109 => ⟨S8x64, .f32⟩
  | 110 => ⟨S512, .f32⟩
  | 111 => ⟨S1x512, .f32⟩
  | 112 => ⟨S1x512, .f32⟩
  | 113 => ⟨S1x512, .f32⟩
  | 114 => ⟨S1x512, .f32⟩
  | 115 => ⟨S4x512, .f32⟩
  | 116 => ⟨S1x1024, .f32⟩
  | 117 => ⟨S1024, .f32⟩
  | 118 => ⟨S1x1024, .f32⟩
  | 119 => ⟨S2x1024x5376, .bf16⟩
  | 120 => ⟨S256, .i32⟩
  | 121 => ⟨S_, .i32⟩
  | 122 => ⟨S_, .i32⟩
  | 123 => ⟨S256, .i32⟩
  | 124 => ⟨S256, .i32⟩
  | 125 => ⟨S256, .i32⟩
  | 126 => ⟨S_, .i32⟩
  | 127 => ⟨S256, .i32⟩
  | _ => ⟨S4x4096x1024, .f32⟩

abbrev hbmTy0_1 (i : Nat) : BufTy := match i % 128 with
  | 0 => ⟨S256, .i1⟩
  | 1 => ⟨S256, .i32⟩
  | 2 => ⟨S256, .i32⟩
  | 3 => ⟨S_, .i32⟩
  | 4 => ⟨S256, .i32⟩
  | 5 => ⟨S256, .i1⟩
  | 6 => ⟨S256, .i1⟩
  | 7 => ⟨S_, .i32⟩
  | 8 => ⟨S256, .i32⟩
  | 9 => ⟨S256, .i32⟩
  | 10 => ⟨S256, .i32⟩
  | 11 => ⟨S256x1, .i32⟩
  | 12 => ⟨S1x256, .i32⟩
  | 13 => ⟨S256x256, .i32⟩
  | 14 => ⟨S256x256, .i32⟩
  | 15 => ⟨S256x256, .i1⟩
  | 16 => ⟨S256x256, .bf16⟩
  | 17 => ⟨S4x4096x512, .bf16⟩
  | 18 => ⟨S4x32x512x128, .bf16⟩
  | 19 => ⟨S4x4096x256, .bf16⟩
  | 20 => ⟨S4x16x128x256, .bf16⟩
  | 21 => ⟨S4x4096x512, .bf16⟩
  | 22 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2304, .bf16⟩
  | .local _ .vmem, ⟨8, _⟩ => ⟨S256x256, .bf16⟩
  | .local _ .vmem, ⟨9, _⟩ => ⟨S4x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1024x512, .bf16⟩
  | .local _ .vmem, ⟨15, _⟩ => ⟨S1x1024x512, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x4x128x256, .bf16⟩
  | .local _ .vmem, ⟨21, _⟩ => ⟨S1x4x128x256, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_3 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_c : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_0 : Ref sig .tc := ⟨.hbm, 135, rfl⟩
abbrev main_call2_v12 : Ref sig .tc := ⟨.hbm, 136, rfl⟩
abbrev main_call2_v13 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79_0 : Ref sig .tc := ⟨.hbm, 145, rfl⟩
abbrev main_v79_1 : Ref sig .tc := ⟨.hbm, 146, rfl⟩
abbrev main_v79_2 : Ref sig .tc := ⟨.hbm, 147, rfl⟩
abbrev main_v79_3 : Ref sig .tc := ⟨.hbm, 148, rfl⟩
abbrev main_v79_4 : Ref sig .tc := ⟨.hbm, 149, rfl⟩
abbrev main_v79_5 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S4x4096x1024 : Shape := ⟨3, ![4, 4096, 1024]⟩
abbrev S4x3072 : Shape := ⟨2, ![4, 3072]⟩
abbrev S2x1024 : Shape := ⟨2, ![2, 1024]⟩
abbrev S2x1024x5376 : Shape := ⟨3, ![2, 1024, 5376]⟩
abbrev S2x64 : Shape := ⟨2, ![2, 64]⟩
abbrev S1x1024x5376 : Shape := ⟨3, ![1, 1024, 5376]⟩
abbrev S1024x5376 : Shape := ⟨2, ![1024, 5376]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5376 : Shape := ⟨3, ![4, 4096, 5376]⟩
abbrev S4x4096x512 : Shape := ⟨3, ![4, 4096, 512]⟩
abbrev S4x4096x128 : Shape := ⟨3, ![4, 4096, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x4096x8x16 : Shape := ⟨4, ![4, 4096, 8, 16]⟩
abbrev S4x4096x2x128 : Shape := ⟨4, ![4, 4096, 2, 128]⟩
abbrev S4x4096x256 : Shape := ⟨3, ![4, 4096, 256]⟩
abbrev S4x32x128x512 : Shape := ⟨4, ![4, 32, 128, 512]⟩
abbrev S4x32x512x128 : Shape := ⟨4, ![4, 32, 512, 128]⟩
abbrev S4x16x256x128 : Shape := ⟨4, ![4, 16, 256, 128]⟩
abbrev S4x16x128x256 : Shape := ⟨4, ![4, 16, 128, 256]⟩

abbrev nBuf : Space → Nat
  | .hbm => 260
  | .vmem => 0
  | .smem => 0
  | _ => 0

abbrev hbmTy0_0 (i : Nat) : BufTy := match i % 128 with
  | 0 => ⟨S4x4096x1024, .f32⟩
  | 1 => ⟨S4x3072, .f32⟩
  | 2 => ⟨S2x1024, .f32⟩
  | 3 => ⟨S2x1024x5376, .f32⟩
  | 4 => ⟨S2x64, .f32⟩
  | 5 => ⟨S2x64, .f32⟩
  | 6 => ⟨S2x64, .f32⟩
  | 7 => ⟨S2x64, .f32⟩
  | 8 => ⟨S1x1024x5376, .f32⟩
  | 9 => ⟨S1024x5376, .f32⟩
  | 10 => ⟨S1x1024, .f32⟩
  | 11 => ⟨S1024, .f32⟩
  | 12 => ⟨S1x64, .f32⟩
  | 13 => ⟨S64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S4x1x3072, .f32⟩
  | 21 => ⟨S4x1x1024, .f32⟩
  | 22 => ⟨S4x1x1024, .f32⟩
  | 23 => ⟨S4x1x1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S_, .f32⟩
  | 41 => ⟨S4x1x1024, .f32⟩
  | 42 => ⟨S4x1x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x5376, .f32⟩
  | 48 => ⟨S4x4096x512, .f32⟩
  | 49 => ⟨S4x4096x512, .f32⟩
  | 50 => ⟨S4x4096x128, .f32⟩
  | 51 => ⟨S4x4096x128, .f32⟩
  | 52 => ⟨S4x4096x512, .f32⟩
  | 53 => ⟨S4x4096x512, .f32⟩
  | 54 => ⟨S4096, .i32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .i32⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i32⟩
  | 74 => ⟨S4096, .i32⟩
  | 75 => ⟨S_, .i32⟩
  | 76 => ⟨S4096, .i32⟩
  | 77 => ⟨S4096, .i1⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i1⟩
  | 97 => ⟨S_, .i32⟩
  | 98 => ⟨S_, .i1⟩
  | 99 => ⟨S4096, .i1⟩
  | 100 => ⟨S4096, .i1⟩
  | 101 => ⟨S4096, .i1⟩
  | 102 => ⟨S4096, .i32⟩
  | 103 => ⟨S4096, .i32⟩
  | 104 => ⟨S4096, .i32⟩
  | 105 => ⟨S4096, .f32⟩
  | 106 => ⟨S4096x1, .f32⟩
  | 107 => ⟨S1x16, .f32⟩
  | 108 => ⟨S4096x16, .f32⟩
  | 109 => ⟨S4096x16, .f32⟩
  | 110 => ⟨S4096x16, .f32⟩
  | 111 => ⟨S1x4096x1x16, .f32⟩
  | 112 => ⟨S4096, .f32⟩
  | 113 => ⟨S4096x1, .f32⟩
  | 114 => ⟨S1x16, .f32⟩
  | 115 => ⟨S4096x16, .f32⟩
  | 116 => ⟨S4096x16, .f32⟩
  | 117 => ⟨S4096x16, .f32⟩
  | 118 => ⟨S1x4096x1x16, .f32⟩
  | 119 => ⟨S4x4096x8x64, .f32⟩
  | 120 => ⟨S4x4096x8x64, .f32⟩
  | 121 => ⟨S_, .f32⟩
  | 122 => ⟨S4x4096x8, .f32⟩
  | 123 => ⟨S4x4096x8x1, .f32⟩
  | 124 => ⟨S_, .f32⟩
  | 125 => ⟨S4x4096x8x1, .f32⟩
  | 126 => ⟨S4x4096x8x1, .f32⟩
  | 127 => ⟨S_, .f32⟩
  | _ => ⟨S4x4096x1024, .f32⟩

abbrev hbmTy0_1 (i : Nat) : BufTy := match i % 128 with
  | 0 => ⟨S4x4096x8x1, .f32⟩
  | 1 => ⟨S4x4096x8x1, .f32⟩
  | 2 => ⟨S4x4096x8x1, .f32⟩
  | 3 => ⟨S4x4096x8x64, .f32⟩
  | 4 => ⟨S4x4096x8x64, .f32⟩
  | 5 => ⟨S1x1x1x64, .f32⟩
  | 6 => ⟨S4x4096x8x64, .f32⟩
  | 7 => ⟨S4x4096x8x64, .f32⟩
  | 8 => ⟨S4x4096x512, .f32⟩
  | 9 => ⟨S4x4096x8x64, .f32⟩
  | 10 => ⟨S4x4096x8x64, .f32⟩
  | 11 => ⟨S_, .f32⟩
  | 12 => ⟨S4x4096x8, .f32⟩
  | 13 => ⟨S4x4096x8x1, .f32⟩
  | 14 => ⟨S_, .f32⟩
  | 15 => ⟨S4x4096x8x1, .f32⟩
  | 16 => ⟨S4x4096x8x1, .f32⟩
  | 17 => ⟨S_, .f32⟩
  | 18 => ⟨S4x4096x8x1, .f32⟩
  | 19 => ⟨S4x4096x8x1, .f32⟩
  | 20 => ⟨S4x4096x8x1, .f32⟩
  | 21 => ⟨S4x4096x8x64, .f32⟩
  | 22 => ⟨S4x4096x8x64, .f32⟩
  | 23 => ⟨S1x1x1x64, .f32⟩
  | 24 => ⟨S4x4096x8x64, .f32⟩
  | 25 => ⟨S4x4096x8x64, .f32⟩
  | 26 => ⟨S4x4096x512, .f32⟩
  | 27 => ⟨S4x4096x2x64, .f32⟩
  | 28 => ⟨S4x4096x2x64, .f32⟩
  | 29 => ⟨S_, .f32⟩
  | 30 => ⟨S4x4096x2, .f32⟩
  | 31 => ⟨S4x4096x2x1, .f32⟩
  | 32 => ⟨S_, .f32⟩
  | 33 => ⟨S4x4096x2x1, .f32⟩
  | 34 => ⟨S4x4096x2x1, .f32⟩
  | 35 => ⟨S_, .f32⟩
  | 36 => ⟨S4x4096x2x1, .f32⟩
  | 37 => ⟨S4x4096x2x1, .f32⟩
  | 38 => ⟨S4x4096x2x1, .f32⟩
  | 39 => ⟨S4x4096x2x64, .f32⟩
  | 40 => ⟨S4x4096x2x64, .f32⟩
  | 41 => ⟨S1x1x1x64, .f32⟩
  | 42 => ⟨S4x4096x2x64, .f32⟩
  | 43 => ⟨S4x4096x2x64, .f32⟩
  | 44 => ⟨S4x4096x2x16, .f32⟩
  | 45 => ⟨S4x4096x2x16, .f32⟩
  | 46 => ⟨S1x4096x1x16, .f32⟩
  | 47 => ⟨S1x4096x1x16, .f32⟩
  | 48 => ⟨S4x4096x2x16, .f32⟩
  | 49 => ⟨S4x4096x2x16, .f32⟩
  | 50 => ⟨S4x4096x2x16, .f32⟩
  | 51 => ⟨S4x4096x2x16, .f32⟩
  | 52 => ⟨S4x4096x2x16, .f32⟩
  | 53 => ⟨S4x4096x2x16, .f32⟩
  | 54 => ⟨S4x4096x2x16, .f32⟩
  | 55 => ⟨S4x4096x2x16, .f32⟩
  | 56 => ⟨S4x4096x2x16, .f32⟩
  | 57 => ⟨S4x4096x2x16, .f32⟩
  | 58 => ⟨S4x4096x2x16, .f32⟩
  | 59 => ⟨S4x4096x2x16, .f32⟩
  | 60 => ⟨S1x4096x1x16, .f32⟩
  | 61 => ⟨S1x4096x1x16, .f32⟩
  | 62 => ⟨S4x4096x2x16, .f32⟩
  | 63 => ⟨S4x4096x2x16, .f32⟩
  | 64 => ⟨S4x4096x2x16, .f32⟩
  | 65 => ⟨S4x4096x2x16, .f32⟩
  | 66 => ⟨S4x4096x2x16, .f32⟩
  | 67 => ⟨S4x4096x2x16, .f32⟩
  | 68 => ⟨S4x4096x2x16, .f32⟩
  | 69 => ⟨S4x4096x2x16, .f32⟩
  | 70 => ⟨S4x4096x2x16, .f32⟩
  | 71 => ⟨S4x4096x2x16, .f32⟩
  | 72 => ⟨S4x4096x2x64, .f32⟩
  | 73 => ⟨S4x4096x8x64, .f32⟩
  | 74 => ⟨S4x4096x8x64, .f32⟩
  | 75 => ⟨S_, .f32⟩
  | 76 => ⟨S4x4096x8, .f32⟩
  | 77 => ⟨S4x4096x8x1, .f32⟩
  | 78 => ⟨S_, .f32⟩
  | 79 => ⟨S4x4096x8x1, .f32⟩
  | 80 => ⟨S4x4096x8x1, .f32⟩
  | 81 => ⟨S_, .f32⟩
  | 82 => ⟨S4x4096x8x1, .f32⟩
  | 83 => ⟨S4x4096x8x1, .f32⟩
  | 84 => ⟨S4x4096x8x1, .f32⟩
  | 85 => ⟨S4x4096x8x64, .f32⟩
  | 86 => ⟨S4x4096x8x64, .f32⟩
  | 87 => ⟨S1x1x1x64, .f32⟩
  | 88 => ⟨S4x4096x8x64, .f32⟩
  | 89 => ⟨S4x4096x8x64, .f32⟩
  | 90 => ⟨S4x4096x8x16, .f32⟩
  | 91 => ⟨S4x4096x8x16, .f32⟩
  | 92 => ⟨S1x4096x1x16, .f32⟩
  | 93 => ⟨S1x4096x1x16, .f32⟩
  | 94 => ⟨S4x4096x8x16, .f32⟩
  | 95 => ⟨S4x4096x8x16, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x16, .f32⟩
  | 104 => ⟨S4x4096x8x16, .f32⟩
  | 105 => ⟨S4x4096x8x16, .f32⟩
  | 106 => ⟨S1x4096x1x16, .f32⟩
  | 107 => ⟨S1x4096x1x16, .f32⟩
  | 108 => ⟨S4x4096x8x16, .f32⟩
  | 109 => ⟨S4x4096x8x16, .f32⟩
  | 110 => ⟨S4x4096x8x16, .f32⟩
  | 111 => ⟨S4x4096x8x16, .f32⟩
  | 112 => ⟨S4x4096x8x16, .f32⟩
  | 113 => ⟨S4x4096x8x16, .f32⟩
  | 114 => ⟨S4x4096x8x16, .f32⟩
  | 115 => ⟨S4x4096x8x16, .f32⟩
  | 116 => ⟨S4x4096x8x16, .f32⟩
  | 117 => ⟨S4x4096x8x16, .f32⟩
  | 118 => ⟨S4x4096x8x64, .f32⟩
  | 119 => ⟨S4x4096x512, .f32⟩
  | 120 => ⟨S4x4096x2x128, .f32⟩
  | 121 => ⟨S4x4096x256, .f32⟩
  | 122 => ⟨S4x32x128x512, .f32⟩
  | 123 => ⟨S4x32x512x128, .f32⟩
  | 124 => ⟨S4x16x256x128, .f32⟩
  | 125 => ⟨S4x16x128x256, .f32⟩
  | 126 => ⟨S4x4096x512, .bf16⟩
  | 127 => ⟨S4x32x512x128, .bf16⟩
  | _ => ⟨S4x4096x1024, .f32⟩

abbrev hbmTy0_2 (i : Nat) : BufTy := match i % 128 with
  | 0 => ⟨S4x4096x256, .bf16⟩
  | 1 => ⟨S4x16x128x256, .bf16⟩
  | 2 => ⟨S4x4096x512, .bf16⟩
  | 3 => ⟨S4x4096x512, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_c : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_0 : Ref sig .tc := ⟨.hbm, 79, rfl⟩
abbrev main_call0_v12 : Ref sig .tc := ⟨.hbm, 80, rfl⟩
abbrev main_call0_v13 : Ref sig .tc := ⟨.hbm, 81, rfl⟩
abbrev main_v50 : Ref sig .tc := ⟨.hbm, 82, rfl⟩
abbrev main_c_6 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_v5 : Ref sig .tc := ⟨.hbm, 92, rfl⟩
abbrev main_call1_v6 : Ref sig .tc := ⟨.hbm, 93, rfl⟩
abbrev main_call1_c_2 : Ref sig .tc := ⟨.hbm, 94, rfl⟩
abbrev main_call1_v7 : Ref sig .tc := ⟨.hbm, 95, rfl⟩
abbrev main_call1_v8 : Ref sig .tc := ⟨.hbm, 96, rfl⟩
abbrev main_call1_c_3 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_7 : Ref sig .tc := ⟨.hbm, 121, rfl⟩
abbrev main_v68 : Ref sig .tc := ⟨.hbm, 122, rfl⟩
abbrev main_v69 : Ref sig .tc := ⟨.hbm, 123, rfl⟩
abbrev main_cst_8 : Ref sig .tc := ⟨.hbm, 124, rfl⟩
abbrev main_v70 : Ref sig .tc := ⟨.hbm, 125, rfl⟩
abbrev main_v71 : Ref sig .tc := ⟨.hbm, 126, rfl⟩
abbrev main_cst_9 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_10 : Ref sig .tc := ⟨.hbm, 139, rfl⟩
abbrev main_v83 : Ref sig .tc := ⟨.hbm, 140, rfl⟩
abbrev main_v84 : Ref sig .tc := ⟨.hbm, 141, rfl⟩
abbrev main_cst_11 : Ref sig .tc := ⟨.hbm, 142, rfl⟩
abbrev main_v85 : Ref sig .tc := ⟨.hbm, 143, rfl⟩
abbrev main_v86 : Ref sig .tc := ⟨.hbm, 144, rfl⟩
abbrev main_cst_12 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_13 : Ref sig .tc := ⟨.hbm, 157, rfl⟩
abbrev main_v98 : Ref sig .tc := ⟨.hbm, 158, rfl⟩
abbrev main_v99 : Ref sig .tc := ⟨.hbm, 159, rfl⟩
abbrev main_cst_14 : Ref sig .tc := ⟨.hbm, 160, rfl⟩
abbrev main_v100 : Ref sig .tc := ⟨.hbm, 161, rfl⟩
abbrev main_v101 : Ref sig .tc := ⟨.hbm, 162, rfl⟩
abbrev main_cst_15 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_16 : Ref sig .tc := ⟨.hbm, 203, rfl⟩
abbrev main_v141 : Ref sig .tc := ⟨.hbm, 204, rfl⟩
abbrev main_v142 : Ref sig .tc := ⟨.hbm, 205, rfl⟩
abbrev main_cst_17 : Ref sig .tc := ⟨.hbm, 206, rfl⟩
abbrev main_v143 : Ref sig .tc := ⟨.hbm, 207, rfl⟩
abbrev main_v144 : Ref sig .tc := ⟨.hbm, 208, rfl⟩
abbrev main_cst_18 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩

abbrev nD : Nat := 1
abbrev τ : Topo := Topo.v7x

variable {F : FTy → Type} [FloatOps F]
-- ==== Proof.GqaStep.lean ====
/-
  The attention kernel's body at one block of query rows, written as a recursion over the chunks of keys: the running maximum and the
  accumulator after the context chunk, then after each latent chunk, and the block that is stored at the end.
-/
module

public import proofs.«01_k».proof.Proof.Gen.GqaIdeal.Value
public import Idealize.ShloMosaic.Lib.Pipeline.ValueKit
public import Idealize.ShloMosaic.Lib.Pipeline.ReadBack

@[expose] public section

set_option maxRecDepth 65536

noncomputable section

namespace Cert.Proof.Gqa

open Cert.GqaIdeal Cert.GqaIdeal.Gen Idealize.ShloMosaic Idealize.ShloMosaic.TcCoe Idealize.SL.Sem

/-- The running maximum of every column, and the accumulator: 64 rows of weighted values and 16 equal rows of weights. -/
abbrev State := FVec Ideal S1x1024 .f32 × FVec Ideal S80x1024 .f32

/-- The state after the first chunk: two halves of 128 keys and the chunk's values. -/
def first (qs : FVec Ideal S1x128x1024 .bf16) (k0 k1 : FVec Ideal S1x128x128 .bf16) (v : FVec Ideal S1x1x64x256 .bf16) : State :=
  (k0_pay18 (k0_pay12 qs k0) (k0_pay12 qs k1), k0_pay19 (k0_pay12 qs k0) (k0_pay12 qs k1) v)

/-- The state after one more chunk. -/
def next (qs : FVec Ideal S1x128x1024 .bf16) (k0 k1 : FVec Ideal S1x128x128 .bf16) (v : FVec Ideal S1x1x64x256 .bf16) (st : State) : State :=
  (k0_pay24 (k0_pay12 qs k0) (k0_pay12 qs k1) st.1, k0_pay25 (k0_pay12 qs k0) (k0_pay12 qs k1) (k0_pay16 v) st.1 st.2)

/-- The state after the context chunk and the first `n` latent chunks; chunk `n`'s keys are `key (2 n)`, `key (2 n + 1)`. -/
def state (qs : FVec Ideal S1x128x1024 .bf16) (ctx0 ctx1 : FVec Ideal S1x128x128 .bf16) (ctxv : FVec Ideal S1x1x64x256 .bf16)
    (key : (p : ℕ) → p < 32 → FVec Ideal S1x128x128 .bf16) (val : (n : ℕ) → n < 16 → FVec Ideal S1x1x64x256 .bf16) :
    (n : ℕ) → n ≤ 16 → State
  | 0, _ => first qs ctx0 ctx1 ctxv
  | n + 1, h => next qs (key (2 * n) (by omega)) (key (2 * n + 1) (by omega)) (val n h) (state qs ctx0 ctx1 ctxv key val n (by omega))

/-- The block stored for 256 query rows. -/
def stored (qs : FVec Ideal S1x128x1024 .bf16) (ctx0 ctx1 : FVec Ideal S1x128x128 .bf16) (ctxv : FVec Ideal S1x1x64x256 .bf16)
    (key : (p : ℕ) → p < 32 → FVec Ideal S1x128x128 .bf16) (val : (n : ℕ) → n < 16 → FVec Ideal S1x1x64x256 .bf16) :
    FVec Ideal S1x256x256 .bf16 :=
  k0_pay478 (state qs ctx0 ctx1 ctxv key val 16 le_rfl).2

section
variable (c : Dev nD) (i : grid0.Coords)
  (arg3 : Memref sig .tc .vmem S1x1024x256 .bf16) (harg3 : arg3.IsWhole) (arg4 : Memref sig .tc .vmem S1x4096x128 .bf16) (harg4 : arg4.IsWhole)
  (arg5 : Memref sig .tc .vmem S1x16x64x256 .bf16) (harg5 : arg5.IsWhole) (arg6 : Memref sig .tc .vmem S1x256x128 .bf16) (harg6 : arg6.IsWhole)
  (arg7 : Memref sig .tc .vmem S1x1x64x256 .bf16) (harg7 : arg7.IsWhole) (arg8 : Memref sig .tc .vmem S1x1024x256 .bf16) (harg8 : arg8.IsWhole)
  (arg9 : Memref sig .tc .vmem S4x128x1024 .bf16) (harg9 : arg9.IsWhole)
  (x0 : FVec Ideal S1x1024x256 .bf16) (x1 : FVec Ideal S1x4096x128 .bf16) (x2 : FVec Ideal S1x16x64x256 .bf16) (x3 : FVec Ideal S1x256x128 .bf16)
  (x4 : FVec Ideal S1x1x64x256 .bf16)

/-- Query block `j` as loaded. -/
def loadQ (j : ℕ) (h : j < 4) : FVec Ideal S1x256x256 .bf16 :=
  View.readAt (Elt Ideal) arg3.view (Rect.unit (s := S1x1024x256) ![0, 256 * j, 0] S1x256x256.size (by intro a; fin_cases a <;> simp [S1x1024x256, S1x256x256] <;> omega)).toLoadRect (harg3.unread x0)

/-- Half-chunk `p` of 128 latent keys as loaded. -/
def loadK (p : ℕ) (h : p < 32) : FVec Ideal S1x128x128 .bf16 :=
  View.readAt (Elt Ideal) arg4.view (Rect.unit (s := S1x4096x128) ![0, 128 * p, 0] S1x128x128.size (by intro a; fin_cases a <;> simp [S1x4096x128, S1x128x128] <;> omega)).toLoadRect (harg4.unread x1)

/-- The latent values of chunk `n` as loaded. -/
def loadV (n : ℕ) (h : n < 16) : FVec Ideal S1x1x64x256 .bf16 :=
  View.readAt (Elt Ideal) arg5.view (Rect.unit (s := S1x16x64x256) ![0, n, 0, 0] S1x1x64x256.size (by intro a; fin_cases a <;> simp [S1x16x64x256, S1x1x64x256] <;> omega)).toLoadRect (harg5.unread x2)

/-- Half-chunk `p` of the context's keys as loaded. -/
def loadKc (p : ℕ) (h : p < 2) : FVec Ideal S1x128x128 .bf16 :=
  View.readAt (Elt Ideal) arg6.view (Rect.unit (s := S1x256x128) ![0, 128 * p, 0] S1x128x128.size (by intro a; fin_cases a <;> simp [S1x256x128, S1x128x128] <;> omega)).toLoadRect (harg6.unread x3)

/-- The context's values as loaded. -/
def loadVc : FVec Ideal S1x1x64x256 .bf16 :=
  View.readAt (Elt Ideal) arg7.view (Rect.unit (s := S1x1x64x256) ![0, 0, 0, 0] S1x1x64x256.size (by intro a; fin_cases a <;> simp [S1x1x64x256])).toLoadRect (harg7.unread x4)

/-- The stacked queries of the four blocks, as stored one after another into the scratch. -/
def queryStacks : List (View.Piece (Elt Ideal) S4x128x1024 .bf16) :=
  [⟨Rect.unit ![3, 0, 0] S1x128x1024.size inb_S4x128x1024_S1x128x1024_3_0_0, k0_pay2 (F := Ideal) (loadQ arg3 harg3 x0 3 (by omega))⟩,
   ⟨Rect.unit ![2, 0, 0] S1x128x1024.size inb_S4x128x1024_S1x128x1024_2_0_0, k0_pay2 (F := Ideal) (loadQ arg3 harg3 x0 2 (by omega))⟩,
   ⟨Rect.unit ![1, 0, 0] S1x128x1024.size inb_S4x128x1024_S1x128x1024_1_0_0, k0_pay2 (F := Ideal) (loadQ arg3 harg3 x0 1 (by omega))⟩,
   ⟨Rect.unit ![0, 0, 0] S1x128x1024.size inb_S4x128x1024_S1x128x1024_0_0_0, k0_pay2 (F := Ideal) (loadQ arg3 harg3 x0 0 (by omega))⟩]

/-- The stacked queries of block `j`, loaded back. -/
def loadS (j : ℕ) (h : j < 4) : FVec Ideal S1x128x1024 .bf16 :=
  View.readCov arg9.view (queryStacks arg3 harg3 x0) (Rect.unit (s := S4x128x1024) ![j, 0, 0] S1x128x1024.size (by intro a; fin_cases a <;> simp [S4x128x1024, S1x128x1024] <;> omega)).toLoadRect

/-- The block stored for query block `j`. -/
def block (j : ℕ) (h : j < 4) : FVec Ideal S1x256x256 .bf16 :=
  stored (loadS arg3 harg3 arg9 x0 j h) (loadKc arg6 harg6 x3 0 (by omega)) (loadKc arg6 harg6 x3 1 (by omega)) (loadVc arg7 harg7 x4)
    (loadK arg4 harg4 x1) (loadV arg5 harg5 x2)

/-- The body's four stores are the four blocks. -/
theorem pieces_eq :
    (kernelRun0_A (F := Ideal) c i arg3 harg3 arg4 harg4 arg5 harg5 arg6 harg6 arg7 harg7 arg8 harg8 arg9 harg9 x0 x1 x2 x3 x4).1
      = [⟨Rect.unit ![0, 768, 0] S1x256x256.size inb_S1x1024x256_S1x256x256_0_768_0, block arg3 harg3 arg4 harg4 arg5 harg5 arg6 harg6 arg7 harg7 arg9 x0 x1 x2 x3 x4 3 (by omega)⟩,
         ⟨Rect.unit ![0, 512, 0] S1x256x256.size inb_S1x1024x256_S1x256x256_0_512_0, block arg3 harg3 arg4 harg4 arg5 harg5 arg6 harg6 arg7 harg7 arg9 x0 x1 x2 x3 x4 2 (by omega)⟩,
         ⟨Rect.unit ![0, 256, 0] S1x256x256.size inb_S1x1024x256_S1x256x256_0_256_0, block arg3 harg3 arg4 harg4 arg5 harg5 arg6 harg6 arg7 harg7 arg9 x0 x1 x2 x3 x4 1 (by omega)⟩,
         ⟨Rect.unit ![0, 0, 0] S1x256x256.size inb_S1x1024x256_S1x256x256_0_0_0, block arg3 harg3 arg4 harg4 arg5 harg5 arg6 harg6 arg7 harg7 arg9 x0 x1 x2 x3 x4 0 (by omega)⟩] := by
  sl_kernel_rfl

end

end Cert.Proof.Gqa

end
-- ==== Proof.GqaSoftmax.lean ====
/-
  The arithmetic of a softmax that is summed chunk by chunk, for finite scores and any values: sums of weighted values that are
  rescaled whenever the reference point moves, and their quotient.
-/
module

public import Idealize.ShloMosaic.PureOps.Ideal
public import Idealize.ShloMosaic.Lib.Pipeline.ValueKit

@[expose] public section

noncomputable section

namespace Cert.Proof.Gqa

open Idealize.ShloMosaic

/-- `2 ^ x` of a real number, as an extended real. -/
def two (x : ℝ) : EReal := ((Real.rpow 2 x : ℝ) : EReal)

/-- The base-two power of a difference of real numbers is `two` of it. -/
theorem exp2_sub (a b : ℝ) : Ideal.exp2 ((a : EReal) - (b : EReal)) = two (a - b) := by
  rw [← EReal.coe_sub]; rfl

/-- Powers of two multiply by adding exponents. -/
theorem two_mul_two (a b : ℝ) : two a * two b = two (a + b) := by
  unfold two
  rw [← EReal.coe_mul]
  congr 1
  exact (Real.rpow_add (by norm_num) a b).symm

/-- A nonnegative real factor moves into a finite sum of extended reals. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (by exact_mod_cast ha) (EReal.coe_ne_top a), ih]

/-- A power of two moves into a sum, whatever its terms. -/
theorem two_mul_sum {ι : Type} (s : Finset ι) (a : ℝ) (f : ι → EReal) : two a * ∑ i ∈ s, f i = ∑ i ∈ s, two a * f i :=
  mul_sum s _ (Real.rpow_nonneg (by norm_num) _) f

/-- A power of two moves into a sum of two terms. -/
theorem two_mul_add (a : ℝ) (x y : EReal) : two a * (x + y) = two a * x + two a * y := by
  have h : 0 ≤ Real.rpow 2 a := Real.rpow_nonneg (by norm_num) a
  exact EReal.left_distrib_of_nonneg_of_ne_top (by exact_mod_cast h) (EReal.coe_ne_top _) x y

/-- Key `x` of half-chunk `p`. -/
def keyIdx (p : ℕ) (h : p < 34) (x : Fin 128) : Fin 4352 := ⟨128 * p + x.val, by omega⟩

/-- The sum of the values weighted by `2 ^ (score - M)` over the first `p` half-chunks. -/
def part (a : Fin 4352 → ℝ) (w : Fin 4352 → EReal) (M : ℝ) : (p : ℕ) → p ≤ 34 → EReal
  | 0, _ => 0
  | p + 1, h => part a w M p (by omega) + ∑ x : Fin 128, w (keyIdx p h x) * two (a (keyIdx p h x) - M)

/-- Moving the reference point from `M` to `M'` scales the partial sum. -/
theorem part_move (a : Fin 4352 → ℝ) (w : Fin 4352 → EReal) (M M' : ℝ) (p : ℕ) (h : p ≤ 34) :
    two (M - M') * part a w M p h = part a w M' p h := by
  induction p with
  | zero => simp [part]
  | succ p ih =>
    rw [part, part, two_mul_add, ih, two_mul_sum]
    congr 1
    refine Finset.sum_congr rfl fun x _ => ?_
    rw [mul_left_comm, two_mul_two]
    congr 2
    ring

/-- The first half of a chunk, weighted about `m1` and then moved to `m2`. -/
theorem half_move (a : Fin 4352 → ℝ) (w : Fin 4352 → EReal) (m1 m2 : ℝ) (p : ℕ) (h : p < 34) :
    ∑ x : Fin 128, w (keyIdx p h x) * (two (a (keyIdx p h x) - m1) * two (m1 - m2)) = ∑ x : Fin 128, w (keyIdx p h x) * two (a (keyIdx p h x) - m2) := by
  refine Finset.sum_congr rfl fun x _ => ?_
  rw [two_mul_two]
  congr 2
  ring

/-- The partial sum after all half-chunks is the sum over all keys. -/
theorem part_all (a : Fin 4352 → ℝ) (w : Fin 4352 → EReal) (M : ℝ) : part a w M 34 le_rfl = ∑ t : Fin 4352, w t * two (a t - M) := by
  have key : ∀ (p : ℕ) (h : p ≤ 34), part a w M p h
      = ∑ t : Fin (128 * p), w (t.castLE (by omega)) * two (a (t.castLE (by omega)) - M) := by
    intro p h
    induction p with
    | zero => simp [part]
    | succ p ih =>
      rw [part, ih]
      have hp : 128 * p + 128 ≤ 4352 := by omega
      exact (Fin.sum_univ_add (fun t : Fin (128 * p + 128) => w (t.castLE hp) * two (a (t.castLE hp) - M))).symm
  exact key 34 le_rfl

/-- The weight of key `t`. -/
def weight (a : Fin 4352 → ℝ) (t : Fin 4352) : ℝ := Real.exp (a t) / ∑ u, Real.exp (a u)

/-- A sum of reals is the same sum on the extended reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Division of reals, by one that is not zero, is the same on the extended reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A sum of exponentials is positive. -/
theorem sum_exp_pos (a : Fin 4352 → ℝ) : 0 < ∑ u, Real.exp (a u) :=
  Finset.sum_pos (fun _ _ => Real.exp_pos _) ⟨0, Finset.mem_univ _⟩

/-- Weights do not depend on the reference point. -/
theorem weight_move (a : Fin 4352 → ℝ) (M : ℝ) (t : Fin 4352) : Real.exp (a t - M) / ∑ u, Real.exp (a u - M) = weight a t := by
  unfold weight
  simp only [Real.exp_sub]
  rw [← Finset.sum_div]
  have := (sum_exp_pos a).ne'
  field_simp

/-- The plain form: exponentials about `M` over their sum. -/
theorem plain (a : Fin 4352 → ℝ) (M : ℝ) (t : Fin 4352) :
    Ideal.div (Ideal.exp ((a t : EReal) - (M : EReal))) (∑ u, Ideal.exp ((a u : EReal) - (M : EReal))) = (weight a t : EReal) := by
  simp only [← EReal.coe_sub, Ideal.exp_coe]
  rw [coe_sum, div_coe _ _ (sum_exp_pos _).ne', weight_move]

/-- A power of two as an exponential. -/
theorem two_eq (x : ℝ) : two x = ((Real.exp (x * Real.log 2) : ℝ) : EReal) := by
  unfold two
  rw [show Real.rpow 2 x = (2 : ℝ) ^ x from rfl, Real.rpow_def_of_pos (by norm_num), mul_comm]

/-- The chunked form: the weighted sum times the reciprocal of the sum of the weights. -/
theorem chunked (a : Fin 4352 → ℝ) (w : Fin 4352 → EReal) (M : ℝ) :
    (∑ t, w t * two (a t - M)) * Ideal.div 1 (∑ t : Fin 4352, 1 * two (a t - M)) = ∑ t, w t * (weight (fun t => a t * Real.log 2) t : EReal) := by
  simp only [two_eq, one_mul, sub_mul]
  rw [coe_sum, ← EReal.coe_one, div_coe _ _ (sum_exp_pos fun t => a t * Real.log 2 - M * Real.log 2).ne', mul_comm,
    mul_sum _ _ (div_nonneg zero_le_one (sum_exp_pos fun t => a t * Real.log 2 - M * Real.log 2).le)]
  refine Finset.sum_congr rfl fun t _ => ?_
  rw [mul_left_comm, ← EReal.coe_mul, ← weight_move (fun t => a t * Real.log 2) (M * Real.log 2) t]
  congr 2
  ring

/-- The greatest of finitely many real numbers is real. -/
theorem fold_max_real {n : ℕ} (hn : 0 < n) (op : EReal → EReal → EReal) [Std.Commutative op] [Std.Associative op] (hop : ∀ x y, op x y = max x y)
    (b : EReal) (hb : b = ⊥) (f : Fin n → EReal) (hf : ∀ i, ∃ r : ℝ, f i = (r : EReal)) :
    ∃ r : ℝ, Finset.fold op b f Finset.univ = (r : EReal) := by
  obtain rfl : op = max := funext fun x => funext fun y => hop x y
  subst hb
  haveI : Nonempty (Fin n) := ⟨⟨0, hn⟩⟩
  obtain ⟨i, -, hi⟩ := Finset.exists_max_image Finset.univ f Finset.univ_nonempty
  obtain ⟨r, hr⟩ := hf i
  refine ⟨r, le_antisymm ?_ ?_⟩
  · exact Finset.fold_max_le _ |>.mpr ⟨bot_le, fun j hj => hr ▸ hi j hj⟩
  · exact Finset.le_fold_max _ |>.mpr (Or.inr ⟨i, Finset.mem_univ _, hr.ge⟩)

/-- The larger of two reals is a real. -/
theorem max_real (x y : ℝ) : ∃ r : ℝ, max (x : EReal) (y : EReal) = (r : EReal) := ⟨max x y, (EReal.coe_strictMono.monotone.map_max).symm⟩

end Cert.Proof.Gqa

end
-- ==== Proof.GqaKernel.lean ====
/-
  What the attention kernel's body stores for a block of query rows, read at an index: the weighted sum of the values over all keys.
-/
module

public import proofs.«01_k».proof.Proof.GqaStep
public import proofs.«01_k».proof.Proof.GqaSoftmax

@[expose] public section

set_option maxRecDepth 65536

noncomputable section

namespace Cert.Proof.Gqa

open Cert.GqaIdeal Cert.GqaIdeal.Gen Idealize.ShloMosaic Idealize.ShloMosaic.TcCoe Idealize.SL.Sem

/-- The bit pattern that a maximum starts from is minus infinity. -/
theorem neg_inf : Ideal.ofBits .f32 0xFF800000#32 = ⊥ := by simp [Ideal.ofBits, Ideal.ieee]

/-- The score of a key of a half-chunk against a column of stacked queries. -/
theorem score_at (qs : FVec Ideal S1x128x1024 .bf16) (k : FVec Ideal S1x128x128 .bf16) (x : Fin 128) (n : Fin 1024) :
    k0_pay12 (F := Ideal) qs k (ix2 x n) = ∑ y : Fin 128, k (ix3 0 x y) * qs (ix3 0 y n) := by
  pointwise [k0_pay12, k0_pay11]

section step
variable (s0 s1 : FVec Ideal S128x1024 .f32) (v : FVec Ideal S1x1x64x256 .bf16) (mx : FVec Ideal S1x1024 .f32) (acc : FVec Ideal S80x1024 .f32)
  (r : Fin 80) (n : Fin 1024)

/-- The largest score of a column, over one sub-chunk of 128 keys. -/
theorem pay17_at : k0_pay17 (F := Ideal) s0 (ix2 0 n) = Finset.fold max (Ideal.ofBits .f32 0xFF800000#32) (fun x => s0 (ix2 x n)) Finset.univ := by
  pointwise [k0_pay17]

/-- The same over a first and a second sub-chunk. -/
theorem pay18_at : k0_pay18 (F := Ideal) s0 s1 (ix2 0 n)
    = max (k0_pay17 (F := Ideal) s0 (ix2 0 n)) (Finset.fold max (Ideal.ofBits .f32 0xFF800000#32) (fun x => s1 (ix2 x n)) Finset.univ) := by
  pointwise [k0_pay18]

/-- The running maximum after one more sub-chunk. -/
theorem pay23_at : k0_pay23 (F := Ideal) s0 mx (ix2 0 n)
    = max (mx (ix2 0 n)) (Finset.fold max (Ideal.ofBits .f32 0xFF800000#32) (fun x => s0 (ix2 x n)) Finset.univ) := by
  pointwise [k0_pay23]

/-- The running maximum after two more sub-chunks. -/
theorem pay24_at : k0_pay24 (F := Ideal) s0 s1 mx (ix2 0 n)
    = max (k0_pay23 (F := Ideal) s0 mx (ix2 0 n)) (Finset.fold max (Ideal.ofBits .f32 0xFF800000#32) (fun x => s1 (ix2 x n)) Finset.univ) := by
  pointwise [k0_pay24]

/-- The accumulator after the first chunk. -/
theorem pay19_at : k0_pay19 (F := Ideal) s0 s1 v (ix2 r n)
    = (∑ x : Fin 128, (if h : r.val < 64 then v (ix4 0 0 ⟨r.val, h⟩ ⟨x.val, by omega⟩) else 1)
        * (Ideal.exp2 (s0 (ix2 x n) - k0_pay17 (F := Ideal) s0 (ix2 0 n)) * Ideal.exp2 (k0_pay17 (F := Ideal) s0 (ix2 0 n) - k0_pay18 (F := Ideal) s0 s1 (ix2 0 n))))
      + ∑ x : Fin 128, (if h : r.val < 64 then v (ix4 0 0 ⟨r.val, h⟩ ⟨128 + x.val, by omega⟩) else 1)
        * Ideal.exp2 (s1 (ix2 x n) - k0_pay18 (F := Ideal) s0 s1 (ix2 0 n)) := by
  pointwise [k0_pay19]
  rfl

/-- The accumulator after a later chunk. -/
theorem pay25_at : k0_pay25 (F := Ideal) s0 s1 (k0_pay16 v) mx acc (ix2 r n)
    = Ideal.exp2 (mx (ix2 0 n) - k0_pay24 (F := Ideal) s0 s1 mx (ix2 0 n)) * acc (ix2 r n)
      + ((∑ x : Fin 128, (if h : r.val < 64 then v (ix4 0 0 ⟨r.val, h⟩ ⟨x.val, by omega⟩) else 1)
        * (Ideal.exp2 (s0 (ix2 x n) - k0_pay23 (F := Ideal) s0 mx (ix2 0 n)) * Ideal.exp2 (k0_pay23 (F := Ideal) s0 mx (ix2 0 n) - k0_pay24 (F := Ideal) s0 s1 mx (ix2 0 n))))
      + ∑ x : Fin 128, (if h : r.val < 64 then v (ix4 0 0 ⟨r.val, h⟩ ⟨128 + x.val, by omega⟩) else 1)
        * Ideal.exp2 (s1 (ix2 x n) - k0_pay24 (F := Ideal) s0 s1 mx (ix2 0 n))) := by
  pointwise [k0_pay25, k0_pay16]
  rfl

end step

/-- The rows of the accumulator's left factor: the 64 lanes of the values, then ones. -/
def rows (W : Fin 64 → Fin 4352 → EReal) (r : Fin 80) (t : Fin 4352) : EReal := if h : r.val < 64 then W ⟨r.val, h⟩ t else 1

/-- The greatest of a half-chunk's finite scores is finite. -/
theorem top_real (b : Fin 128 → ℝ) :
    ∃ g : ℝ, Finset.fold max (Ideal.ofBits .f32 0xFF800000#32) (fun x : Fin 128 => (b x : EReal)) Finset.univ = (g : EReal) :=
  fold_max_real (by norm_num) max (fun _ _ => rfl) _ neg_inf _ fun x => ⟨_, rfl⟩

/-- The stored block is the accumulator's first 64 rows times the reciprocal of row 64, the four heads' columns side by side. -/
theorem quotient_at (acc : FVec Ideal S80x1024 .f32) (h : Fin 4) (d : Fin 64) (r : Fin 256) :
    k0_pay478 (F := Ideal) acc (ix3 0 r ⟨64 * h.val + d.val, by omega⟩)
      = acc (ix2 ⟨d.val, by omega⟩ ⟨256 * h.val + r.val, by omega⟩) * Ideal.div 1 (acc (ix2 64 ⟨256 * h.val + r.val, by omega⟩)) := by
  have e : ∀ (i i' : Fin 80) (j j' : Fin 1024), i = i' → j = j' → acc (ix2 i j) * Ideal.div 1 (acc (ix2 64 j)) = acc (ix2 i' j') * Ideal.div 1 (acc (ix2 64 j')) := by
    rintro i _ j _ rfl rfl; rfl
  pointwise [k0_pay478]
  have := h.isLt
  split_ifs <;> exact e _ _ _ _ (Fin.ext (by first | omega | (simp only; omega))) (Fin.ext (by first | omega | (simp only; omega)))

section column
variable (qs : FVec Ideal S1x128x1024 .bf16) (ctx0 ctx1 : FVec Ideal S1x128x128 .bf16) (ctxv : FVec Ideal S1x1x64x256 .bf16)
  (key : (p : ℕ) → p < 32 → FVec Ideal S1x128x128 .bf16) (val : (n : ℕ) → n < 16 → FVec Ideal S1x1x64x256 .bf16)
  (a : Fin 4352 → ℝ) (W : Fin 64 → Fin 4352 → EReal) (col : Fin 1024)

/-- In a column whose scores are finite the running maximum is finite, and the accumulator is the partial weighted sum about it. -/
theorem state_at
    (hc0 : ∀ x, k0_pay12 (F := Ideal) qs ctx0 (ix2 x col) = (a (keyIdx 0 (by norm_num) x) : EReal))
    (hc1 : ∀ x, k0_pay12 (F := Ideal) qs ctx1 (ix2 x col) = (a (keyIdx 1 (by norm_num) x) : EReal))
    (hk : ∀ p h x, k0_pay12 (F := Ideal) qs (key p h) (ix2 x col) = (a (keyIdx (p + 2) (by omega) x) : EReal))
    (hcv : ∀ (d : Fin 64) (x : Fin 256), ctxv (ix4 0 0 d x) = W d ⟨x.val, by omega⟩)
    (hv : ∀ (n : ℕ) (h : n < 16) (d : Fin 64) (x : Fin 256), val n h (ix4 0 0 d x) = W d ⟨256 * (n + 1) + x.val, by omega⟩)
    (n : ℕ) (h : n ≤ 16) :
    ∃ M : ℝ, (state qs ctx0 ctx1 ctxv key val n h).1 (ix2 0 col) = (M : EReal)
      ∧ ∀ r : Fin 80, (state qs ctx0 ctx1 ctxv key val n h).2 (ix2 r col) = part a (rows W r) M (2 * n + 2) (by omega) := by
  induction n with
  | zero =>
    obtain ⟨g0, e0⟩ := top_real fun x => a (keyIdx 0 (by norm_num) x)
    obtain ⟨g1, e1⟩ := top_real fun x => a (keyIdx 1 (by norm_num) x)
    obtain ⟨M, eM⟩ := max_real g0 g1
    refine ⟨M, ?_, fun r => ?_⟩
    · simp only [state, first, pay18_at, pay17_at, hc0, hc1, e0, e1, eM]
    · simp only [state, first, pay19_at, pay18_at, pay17_at, e0, e1, eM, hc0, hc1, exp2_sub, hcv]
      have e := half_move a (rows W r) g0 M 0 (by norm_num)
      simp only [part, zero_add]
      rw [← e]
      simp only [rows, keyIdx]
      congr 1 <;> refine Finset.sum_congr rfl fun x _ => ?_ <;> split <;> simp only [Nat.mul_zero, Nat.zero_add, Nat.mul_one]
  | succ n ih =>
    obtain ⟨M, eM, eA⟩ := ih (by omega)
    obtain ⟨g0, e0⟩ := top_real fun x => a (keyIdx (2 * n + 2) (by omega) x)
    obtain ⟨g1, e1⟩ := top_real fun x => a (keyIdx (2 * n + 1 + 2) (by omega) x)
    obtain ⟨M1, eM1⟩ := max_real M g0
    obtain ⟨M2, eM2⟩ := max_real M1 g1
    refine ⟨M2, ?_, fun r => ?_⟩
    · simp only [state, next, pay24_at, pay23_at, hk, e0, e1, eM, eM1, eM2]
    · simp only [state, next, pay25_at, pay24_at, pay23_at, e0, e1, eM, eM1, eM2, eA, hk, exp2_sub, hv]
      have e := half_move a (rows W r) M1 M2 (2 * n + 2) (by omega)
      rw [part_move, ← add_assoc]
      show _ = part a (rows W r) M2 (2 * n + 2) (by omega)
          + (∑ x : Fin 128, rows W r (keyIdx (2 * n + 2) (by omega) x) * two (a (keyIdx (2 * n + 2) (by omega) x) - M2))
          + ∑ x : Fin 128, rows W r (keyIdx (2 * n + 2 + 1) (by omega) x) * two (a (keyIdx (2 * n + 2 + 1) (by omega) x) - M2)
      rw [← e]
      simp only [rows, keyIdx]
      have i0 : ∀ x : Fin 128, 256 * (n + 1) + x.val = 128 * (2 * n + 2) + x.val := fun x => by omega
      have i1 : ∀ x : Fin 128, 256 * (n + 1) + (128 + x.val) = 128 * (2 * n + 2 + 1) + x.val := fun x => by omega
      simp only [i0, i1]

/-- What is stored at row `r`, lane `64 h + d`, of the block, when the scores of column `256 h + r` are finite: the values' lane `d`
    weighted by the softmax of the scores over all keys. -/
theorem stored_at (h : Fin 4) (d : Fin 64) (r : Fin 256) (hcol : col = ⟨256 * h.val + r.val, by omega⟩)
    (hc0 : ∀ x, k0_pay12 (F := Ideal) qs ctx0 (ix2 x col) = (a (keyIdx 0 (by norm_num) x) : EReal))
    (hc1 : ∀ x, k0_pay12 (F := Ideal) qs ctx1 (ix2 x col) = (a (keyIdx 1 (by norm_num) x) : EReal))
    (hk : ∀ p h x, k0_pay12 (F := Ideal) qs (key p h) (ix2 x col) = (a (keyIdx (p + 2) (by omega) x) : EReal))
    (hcv : ∀ (d : Fin 64) (x : Fin 256), ctxv (ix4 0 0 d x) = W d ⟨x.val, by omega⟩)
    (hv : ∀ (n : ℕ) (h : n < 16) (d : Fin 64) (x : Fin 256), val n h (ix4 0 0 d x) = W d ⟨256 * (n + 1) + x.val, by omega⟩) :
    stored qs ctx0 ctx1 ctxv key val (ix3 0 r ⟨64 * h.val + d.val, by omega⟩)
      = ∑ t, W d t * (weight (fun t => a t * Real.log 2) t : EReal) := by
  obtain ⟨M, -, eA⟩ := state_at qs ctx0 ctx1 ctxv key val a W col hc0 hc1 hk hcv hv 16 le_rfl
  have e1 := eA ⟨d.val, by omega⟩
  have e2 := eA 64
  have r1 : rows W ⟨d.val, by omega⟩ = W d := by funext t; simp [rows]
  have r2 : rows W 64 = fun _ => 1 := by funext t; simp [rows]
  rw [r1] at e1
  rw [r2] at e2
  rw [show part a (W d) M (2 * 16 + 2) _ = _ from part_all a (W d) M] at e1
  rw [show part a (fun _ => 1) M (2 * 16 + 2) _ = _ from part_all a (fun _ => 1) M] at e2
  rw [← chunked a (W d) M, ← e1, ← e2, hcol]
  unfold stored
  generalize (state qs ctx0 ctx1 ctxv key val 16 le_rfl).2 = acc
  exact quotient_at acc h d r

end column

/-- Which lane of which row a column of the stacked queries picks, the four columns' groups told apart by their heads. -/
theorem pick (X : Fin 256 → Fin 256 → EReal) (h : Fin 4) (r : Fin 256) (y : Fin 128) (b : BitVec 1) (hb : b = if y.val < 64 then 1#1 else 0#1) :
    (if h_1 : 256 * h.val + r.val < 512 then
      if h_2 : 256 * h.val + r.val < 256 then Scalar.select b (X ⟨256 * h.val + r.val, h_2⟩ ⟨y.val, by omega⟩) 0
      else Scalar.select b 0 (X ⟨256 * h.val + r.val - 256, by omega⟩ ⟨y.val, by omega⟩)
    else
      if h_2 : 256 * h.val + r.val - 512 < 256 then Scalar.select b (X ⟨256 * h.val + r.val - 512, h_2⟩ ⟨128 + y.val, by omega⟩) 0
      else Scalar.select b 0 (X ⟨256 * h.val + r.val - 512 - 256, by omega⟩ ⟨128 + y.val, by omega⟩))
      = if y.val / 64 = h.val % 2 then X r ⟨64 * h.val + y.val % 64, by omega⟩ else 0 := by
  have one : ∀ a b : EReal, Scalar.select 1#1 a b = a := fun _ _ => rfl
  have zero : ∀ a b : EReal, Scalar.select 0#1 a b = b := fun _ _ => rfl
  have e : ∀ i i' j j' : Fin 256, i.val = i'.val → j.val = j'.val → X i j = X i' j' := by
    intro i i' j j' hi hj
    rw [Fin.ext hi, Fin.ext hj]
  by_cases hy : y.val < 64
  · rw [if_pos hy] at hb
    subst hb
    simp only [one]
    rcases (by omega : h.val = 0 ∨ h.val = 1 ∨ h.val = 2 ∨ h.val = 3) with hh | hh | hh | hh
    · rw [dif_pos (by omega), dif_pos (by omega), if_pos (by omega)]; exact e _ _ _ _ (by first | omega | (simp only; omega)) (by first | omega | (simp only; omega))
    · rw [dif_pos (by omega), dif_neg (by omega), if_neg (by omega)]
    · rw [dif_neg (by omega), dif_pos (by omega), if_pos (by omega)]; exact e _ _ _ _ (by first | omega | (simp only; omega)) (by first | omega | (simp only; omega))
    · rw [dif_neg (by omega), dif_neg (by omega), if_neg (by omega)]
  · rw [if_neg hy] at hb
    subst hb
    simp only [zero]
    rcases (by omega : h.val = 0 ∨ h.val = 1 ∨ h.val = 2 ∨ h.val = 3) with hh | hh | hh | hh
    · rw [dif_pos (by omega), dif_pos (by omega), if_neg (by omega)]
    · rw [dif_pos (by omega), dif_neg (by omega), if_pos (by omega)]; exact e _ _ _ _ (by first | omega | (simp only; omega)) (by first | omega | (simp only; omega))
    · rw [dif_neg (by omega), dif_pos (by omega), if_neg (by omega)]
    · rw [dif_neg (by omega), dif_neg (by omega), if_pos (by omega)]; exact e _ _ _ _ (by first | omega | (simp only; omega)) (by first | omega | (simp only; omega))

/-- Stacked queries: column `256 h + r`, lane `y`, holds head `h`'s scaled lane of row `r` where `y` is in the head's half, and zero elsewhere. -/
theorem query_at (q : FVec Ideal S1x256x256 .bf16) (h : Fin 4) (r : Fin 256) (y : Fin 128) :
    k0_pay2 (F := Ideal) q (ix3 0 y ⟨256 * h.val + r.val, by omega⟩)
      = if y.val / 64 = h.val % 2 then q (ix3 0 r ⟨64 * h.val + y.val % 64, by omega⟩) * (((Real.log 256)⁻¹ : ℝ) : EReal) else 0 := by
  have c : Named.named (F := Ideal) (φ := .f32) κ "qk_scale" 0x3E38AA3B#32 = (((Real.log 256)⁻¹ : ℝ) : EReal) :=
    IdealRules.named_const.ideal_named_scalar _ _ _ _ rfl
  have lt : ∀ y : Fin 128, IntOp.cmpi .slt (BitVec.ofNat 32 y.val) 64#32 = if y.val < 64 then 1#1 else 0#1 := by decide +kernel
  pointwise [k0_pay2]
  rw [c]
  exact pick (fun i j => q (ix3 0 i j) * (((Real.log 256)⁻¹ : ℝ) : EReal)) h r y _ (lt y)

/-- A score against stacked queries, for finite queries and keys duplicated in both halves of the lanes. -/
theorem score_real (q : FVec Ideal S1x256x256 .bf16) (k : FVec Ideal S1x128x128 .bf16) (h : Fin 4) (r : Fin 256) (x : Fin 128)
    (Q K : Fin 64 → ℝ) (hq : ∀ d : Fin 64, q (ix3 0 r ⟨64 * h.val + d.val, by omega⟩) = (Q d : EReal))
    (hK : ∀ y : Fin 128, k (ix3 0 x y) = (K ⟨y.val % 64, by omega⟩ : EReal)) :
    k0_pay12 (F := Ideal) (k0_pay2 (F := Ideal) q) k (ix2 x ⟨256 * h.val + r.val, by omega⟩) = (((∑ d, K d * Q d) * (Real.log 256)⁻¹ : ℝ) : EReal) := by
  rw [score_at]
  have e : ∀ y : Fin 128, k (ix3 0 x y) * k0_pay2 (F := Ideal) q (ix3 0 y ⟨256 * h.val + r.val, by omega⟩)
      = (((if y.val / 64 = h.val % 2 then K ⟨y.val % 64, by omega⟩ * (Q ⟨y.val % 64, by omega⟩ * (Real.log 256)⁻¹) else 0 : ℝ)) : EReal) := by
    intro y
    rw [query_at, hK]
    split
    · rw [hq ⟨y.val % 64, by omega⟩, ← EReal.coe_mul, ← EReal.coe_mul]
    · rw [mul_zero, EReal.coe_zero]
  rw [Finset.sum_congr rfl fun y _ => e y, coe_sum]
  congr 1
  rw [show (∑ y : Fin 128, if y.val / 64 = h.val % 2 then K ⟨y.val % 64, by omega⟩ * (Q ⟨y.val % 64, by omega⟩ * (Real.log 256)⁻¹) else (0 : ℝ)) = _
    from Fin.sum_univ_add (a := 64) (b := 64) fun y : Fin 128 => if y.val / 64 = h.val % 2 then K ⟨y.val % 64, by omega⟩ * (Q ⟨y.val % 64, by omega⟩ * (Real.log 256)⁻¹) else (0 : ℝ)]
  have m0 : ∀ d : Fin 64, d.val / 64 = 0 := fun d => by omega
  have m1 : ∀ d : Fin 64, (64 + d.val) / 64 = 1 := fun d => by omega
  have n0 : ∀ d : Fin 64, d.val % 64 = d.val := fun d => by omega
  have n1 : ∀ d : Fin 64, (64 + d.val) % 64 = d.val := fun d => by omega
  simp only [Fin.val_castAdd, Fin.val_natAdd, m0, m1, n0, n1, Finset.sum_mul]
  rcases Nat.mod_two_eq_zero_or_one h.val with hh | hh <;> simp [hh, mul_assoc]

end Cert.Proof.Gqa

end
-- ==== Proof.GqaReference.lean ====
/-
  The attention's reference read at an index, for finite queries and keys: the values of all keys, the context's first, weighted by the
  softmax of the scores.
-/
module

public import proofs.«01_k».proof.Proof.Gen.GqaRefIdeal.Read
public import proofs.«01_k».proof.Proof.GqaSoftmax

@[expose] public section

set_option maxRecDepth 16384

noncomputable section

namespace Cert.Proof.Gqa

open Cert.GqaRefIdeal Cert.GqaRefIdeal.Gen Cert.GqaRefIdeal.Read Idealize.ShloMosaic Idealize.ShloMosaic.TcCoe Idealize.SL.Sem

/-- Key or value number `t` of batch `b`: the first 256 come from the context. -/
def keyAt {α : Type} (k : S4x4096x128.Idx → α) (ck : S4x256x128.Idx → α) (b : Fin 4) (t : Fin 4352) (l : Fin 128) : α :=
  if h : t.val < 256 then ck (ix3 b ⟨t.val, h⟩ l) else k (ix3 b ⟨t.val - 256, by omega⟩ l)

/-- Finite keys, context and latent, are finite when joined. -/
theorem keyAt_coe (k : S4x4096x128.Idx → EReal) (ck : S4x256x128.Idx → EReal) (kr : S4x4096x128.Idx → ℝ) (ckr : S4x256x128.Idx → ℝ)
    (hk : ∀ i, k i = (kr i : EReal)) (hck : ∀ i, ck i = (ckr i : EReal)) (b : Fin 4) (t : Fin 4352) (l : Fin 128) :
    keyAt k ck b t l = ((keyAt kr ckr b t l : ℝ) : EReal) := by
  unfold keyAt
  split
  · exact hck _
  · exact hk _

/-- The base-two score of query row `i`, head `h`, against key `t`: the dot product over 64 lanes, divided by `8 log 2`. -/
def score (qr : S4x4096x512.Idx → ℝ) (kr : S4x4096x128.Idx → ℝ) (ckr : S4x256x128.Idx → ℝ) (b : Fin 4) (i : Fin 4096) (h : Fin 8) (t : Fin 4352) : ℝ :=
  (∑ d : Fin 64, keyAt kr ckr b t ⟨64 * (h.val / 4) + d.val, by omega⟩ * qr (ix3 b i ⟨64 * h.val + d.val, by omega⟩)) * (Real.log 256)⁻¹

/-- The attention's result at row `i`, head `h`, lane `d`. -/
def attend (qr : S4x4096x512.Idx → ℝ) (kr : S4x4096x128.Idx → ℝ) (ckr : S4x256x128.Idx → ℝ) (v : S4x4096x128.Idx → EReal)
    (cv : S4x256x128.Idx → EReal) (b : Fin 4) (i : Fin 4096) (h : Fin 8) (d : Fin 64) : EReal :=
  ∑ t : Fin 4352, keyAt v cv b t ⟨64 * (h.val / 4) + d.val, by omega⟩ * (weight (fun t => score qr kr ckr b i h t * Real.log 2) t : EReal)

variable (q : FVec Ideal S4x4096x512 .f32) (k v : FVec Ideal S4x4096x128 .f32) (ck cv : FVec Ideal S4x256x128 .f32)
  (qr : S4x4096x512.Idx → ℝ) (kr : S4x4096x128.Idx → ℝ) (ckr : S4x256x128.Idx → ℝ)

/-- The reference's joined keys, one element. -/
theorem v2_at (b : Fin 4) (t : Fin 4352) (g : Fin 2) (d : Fin 64) :
    val_main_v2 (F := Ideal) k ck (ix4 b t g d) = keyAt (α := EReal) k ck b t ⟨64 * g.val + d.val, by omega⟩ := by
  unfold keyAt
  pointwise [val_main_v2, val_main_v1, val_main_v0]
  simp only [mul_comm g.val 64]

/-- The reference's joined values, one element. -/
theorem v5_at (b : Fin 4) (t : Fin 4352) (g : Fin 2) (d : Fin 64) :
    val_main_v5 (F := Ideal) v cv (ix4 b t g d) = keyAt (α := EReal) v cv b t ⟨64 * g.val + d.val, by omega⟩ := by
  unfold keyAt
  pointwise [val_main_v5, val_main_v4, val_main_v3]
  simp only [mul_comm g.val 64]

/-- The bit pattern of one eighth. -/
theorem eighth : Ideal.ofBits .f32 0x3E000000#32 = (((1 : ℝ) / 8 : ℝ) : EReal) := by
  simp [Ideal.ofBits, Ideal.ieee, -EReal.coe_mul]; norm_num

/-- Dividing by `8 log 2` and multiplying by `log 2` is dividing by eight. -/
theorem log_scale (x : ℝ) : x * (1 / 8) = x * (Real.log 256)⁻¹ * Real.log 2 := by
  have e : Real.log 256 = 8 * Real.log 2 := by
    rw [show (256 : ℝ) = 2 ^ 8 by norm_num, Real.log_pow]; norm_num
  have := (Real.log_pos (by norm_num : (1 : ℝ) < 2)).ne'
  rw [e]
  field_simp

variable (hq : ∀ i, q i = (qr i : EReal)) (hk : ∀ i, k i = (kr i : EReal)) (hck : ∀ i, ck i = (ckr i : EReal))
include hq hk hck

/-- The reference's scores are finite. -/
theorem v10_at (b : Fin 4) (g : Fin 2) (h : Fin 4) (i : Fin 4096) (t : Fin 4352) :
    val_main_v10 (F := Ideal) q k ck (ix5 b g h i t) = ((score qr kr ckr b i ⟨4 * g.val + h.val, by omega⟩ t * Real.log 2 : ℝ) : EReal) := by
  have e : val_main_v10 (F := Ideal) q k ck (ix5 b g h i t)
      = (∑ x : Fin 64, val_main_v2 (F := Ideal) k ck (ix4 b t g x) * q (ix3 b i ⟨g.val * 256 + h.val * 64 + x.val, by omega⟩)) * Ideal.ofBits .f32 0x3E000000#32 := by
    pointwise [val_main_v10, val_main_v9, val_main_cst, val_main_v8, val_main_v7, val_main_v6]
  rw [e, eighth]
  have p : ∀ x : Fin 64, val_main_v2 (F := Ideal) k ck (ix4 b t g x) * q (ix3 b i ⟨g.val * 256 + h.val * 64 + x.val, by omega⟩)
      = ((keyAt kr ckr b t ⟨64 * ((4 * g.val + h.val) / 4) + x.val, by omega⟩ * qr (ix3 b i ⟨64 * (4 * g.val + h.val) + x.val, by omega⟩) : ℝ) : EReal) := by
    intro x
    have i1 : g.val * 256 + h.val * 64 + x.val = 64 * (4 * g.val + h.val) + x.val := by omega
    have i2 : (4 * g.val + h.val) / 4 = g.val := by omega
    rw [v2_at, keyAt_coe k ck kr ckr hk hck, hq, ← EReal.coe_mul]
    simp only [i1, i2]
  rw [Finset.sum_congr rfl fun x _ => p x, coe_sum, ← EReal.coe_mul, log_scale]
  rfl

/-- The reference's row maximum is finite. -/
theorem v13_at (b : Fin 4) (g : Fin 2) (h : Fin 4) (i : Fin 4096) :
    ∃ M : ℝ, val_main_v13 (F := Ideal) q k ck (ix4 b g h i) = (M : EReal) := by
  have ninf : Ideal.ofBits .f32 0xFF800000#32 = ⊥ := by simp [Ideal.ofBits, Ideal.ieee]
  have real : ∀ j : S4x2x4x4096x4352.Idx, ∃ r : ℝ, val_main_v10 (F := Ideal) q k ck j = (r : EReal) := by
    intro j
    have ej : j = ix5 (j 0) (j 1) (j 2) (j 3) (j 4) := by funext a; fin_cases a <;> rfl
    rw [ej]
    exact ⟨_, v10_at q k ck qr kr ckr hq hk hck _ _ _ _ _⟩
  obtain ⟨M, hM⟩ : ∃ M : ℝ, val_main_v11 (F := Ideal) q k ck (ix4 b g h i) = (M : EReal) := by
    unfold val_main_v11
    rw [Host.reduce_eq_fold_single (FloatOps.maximumf (F := Ideal) (φ := .f32)) _ _ _ (by decide) _ _]
    exact fold_max_real (show 0 < 4352 by norm_num) _ (fun _ _ => rfl) _ ninf _ fun x => real _
  refine ⟨M, ?_⟩
  rw [val_main_v13_apply, hM, val_main_v12_apply, val_main_cst_1_apply]
  show max (Ideal.ofBits .f32 0xFF800000#32) (M : EReal) = M
  rw [ninf, max_eq_right bot_le]

/-- The reference's probabilities are the softmax weights. -/
theorem v21_at (b : Fin 4) (g : Fin 2) (h : Fin 4) (i : Fin 4096) (t : Fin 4352) :
    val_main_v21 (F := Ideal) q k ck (ix5 b g h i t)
      = (weight (fun t => score qr kr ckr b i ⟨4 * g.val + h.val, by omega⟩ t * Real.log 2) t : EReal) := by
  obtain ⟨M, hM⟩ := v13_at q k ck qr kr ckr hq hk hck b g h i
  have e : val_main_v21 (F := Ideal) q k ck (ix5 b g h i t)
      = Ideal.div (Ideal.exp (val_main_v10 (F := Ideal) q k ck (ix5 b g h i t) - val_main_v13 (F := Ideal) q k ck (ix4 b g h i)))
          (∑ x : Fin 4352, Ideal.exp (val_main_v10 (F := Ideal) q k ck (ix5 b g h i x) - val_main_v13 (F := Ideal) q k ck (ix4 b g h i))) := by
    pointwise [val_main_v21, val_main_v20, val_main_v19, val_main_v18, val_main_v17, val_main_v16, val_main_v15, val_main_v14, val_main_cst_2]
  rw [e, hM]
  simp only [v10_at q k ck qr kr ckr hq hk hck]
  exact plain (fun t => score qr kr ckr b i ⟨4 * g.val + h.val, by omega⟩ t * Real.log 2) M t

/-- The reference's result. -/
theorem v25_at (b : Fin 4) (i : Fin 4096) (h : Fin 8) (d : Fin 64) :
    val_main_v25 (F := Ideal) q k v ck cv (ix3 b i ⟨64 * h.val + d.val, by omega⟩) = attend qr kr ckr v cv b i h d := by
  have e : val_main_v25 (F := Ideal) q k v ck cv (ix3 b i ⟨64 * h.val + d.val, by omega⟩)
      = ∑ x : Fin 4352, val_main_v5 (F := Ideal) v cv (ix4 b x ⟨(64 * h.val + d.val) / 256, by omega⟩ d)
          * val_main_v21 (F := Ideal) q k ck (ix5 b ⟨(64 * h.val + d.val) / 256, by omega⟩ ⟨(64 * h.val + d.val) / 64 % 4, by omega⟩ i x) := by
    pointwise [val_main_v25, val_main_v24, val_main_v23, val_main_v22]
  have i1 : (64 * h.val + d.val) / 256 = h.val / 4 := by omega
  have i3 : 4 * (h.val / 4) + (64 * h.val + d.val) / 64 % 4 = h.val := by omega
  rw [e]
  unfold attend
  refine Finset.sum_congr rfl fun t _ => ?_
  rw [v5_at, v21_at q k ck qr kr ckr hq hk hck]
  simp only [i1, i3]

end Cert.Proof.Gqa

end
-- ==== Proof.GqaValue.lean ====
/-
  The attention kernel's result array after the run is the reference's value of the argument arrays, for finite queries and keys.
-/
module

public import proofs.«01_k».proof.Proof.GqaKernel
public import proofs.«01_k».proof.Proof.GqaReference

@[expose] public section

set_option maxRecDepth 65536

noncomputable section

namespace Cert.Proof.Gqa

open Cert.GqaIdeal Cert.GqaIdeal.Gen Idealize.ShloMosaic Idealize.ShloMosaic.TcCoe Idealize.SL.Sem

/-- Two equal places of equal blocks hold the same value. -/
theorem same_block (B : (j : ℕ) → j < 4 → FVec Ideal S1x256x256 .bf16) (n : ℕ) (hn : n < 4) (x : S1x256x256.Idx) (j : Fin 4) (r l : Fin 256)
    (e : j.val = n) (e1 : (x 1).val = r.val) (e2 : (x 2).val = l.val) : B n hn x = B j.val j.isLt (ix3 0 r l) := by
  subst e
  congr 1
  blk_ext [e1, e2]

section loads
variable (c : Dev nD) (i : grid0.Coords)
  (arg3 : Memref sig .tc .vmem S1x1024x256 .bf16) (harg3 : arg3.IsWhole) (arg4 : Memref sig .tc .vmem S1x4096x128 .bf16) (harg4 : arg4.IsWhole)
  (arg5 : Memref sig .tc .vmem S1x16x64x256 .bf16) (harg5 : arg5.IsWhole) (arg6 : Memref sig .tc .vmem S1x256x128 .bf16) (harg6 : arg6.IsWhole)
  (arg7 : Memref sig .tc .vmem S1x1x64x256 .bf16) (harg7 : arg7.IsWhole) (arg8 : Memref sig .tc .vmem S1x1024x256 .bf16) (harg8 : arg8.IsWhole)
  (arg9 : Memref sig .tc .vmem S4x128x1024 .bf16) (harg9 : arg9.IsWhole)
  (x0 : FVec Ideal S1x1024x256 .bf16) (x1 : FVec Ideal S1x4096x128 .bf16) (x2 : FVec Ideal S1x16x64x256 .bf16) (x3 : FVec Ideal S1x256x128 .bf16)
  (x4 : FVec Ideal S1x1x64x256 .bf16)

/-- The loaded queries, one element. -/
theorem loadQ_at (j : ℕ) (h : j < 4) (r l : Fin 256) : loadQ arg3 harg3 x0 j h (ix3 0 r l) = x0 (ix3 0 ⟨256 * j + r.val, by omega⟩ l) := by
  unfold loadQ
  rw [View.readAt_eq_ld, harg3.read_unread]
  pointwise

/-- The loaded latent keys, one element. -/
theorem loadK_at (p : ℕ) (h : p < 32) (x y : Fin 128) : loadK arg4 harg4 x1 p h (ix3 0 x y) = x1 (ix3 0 ⟨128 * p + x.val, by omega⟩ y) := by
  unfold loadK
  rw [View.readAt_eq_ld, harg4.read_unread]
  pointwise

/-- The loaded latent values, one element. -/
theorem loadV_at (n : ℕ) (h : n < 16) (d : Fin 64) (x : Fin 256) : loadV arg5 harg5 x2 n h (ix4 0 0 d x) = x2 (ix4 0 ⟨n, h⟩ d x) := by
  unfold loadV
  rw [View.readAt_eq_ld, harg5.read_unread]
  pointwise

/-- The loaded context keys, one element. -/
theorem loadKc_at (p : ℕ) (h : p < 2) (x y : Fin 128) : loadKc arg6 harg6 x3 p h (ix3 0 x y) = x3 (ix3 0 ⟨128 * p + x.val, by omega⟩ y) := by
  unfold loadKc
  rw [View.readAt_eq_ld, harg6.read_unread]
  pointwise

/-- The loaded context values, one element. -/
theorem loadVc_at (d : Fin 64) (x : Fin 256) : loadVc arg7 harg7 x4 (ix4 0 0 d x) = x4 (ix4 0 0 d x) := by
  unfold loadVc
  rw [View.readAt_eq_ld, harg7.read_unread]
  pointwise

/-- The stacked queries of a block are loaded back as they were stored. -/
theorem loadS_eq (j : Fin 4) : loadS arg3 harg3 arg9 x0 j.val j.isLt = k0_pay2 (F := Ideal) (loadQ arg3 harg3 x0 j.val j.isLt) := by
  unfold loadS queryStacks
  fin_cases j <;> simp (disch := decide) only [↓ View.readCov_skip, View.readCov_cons_toLoadRect]

/-- Row `256 j + r` of the stored block is row `r` of query block `j`. -/
theorem out_at (j : Fin 4) (r l : Fin 256) :
    out0_A_5 (F := Ideal) c i arg3 harg3 arg4 harg4 arg5 harg5 arg6 harg6 arg7 harg7 arg8 harg8 arg9 harg9 x0 x1 x2 x3 x4
        (ix3 (0 : Fin 1) ⟨256 * j.val + r.val, by omega⟩ l)
      = block arg3 harg3 arg4 harg4 arg5 harg5 arg6 harg6 arg7 harg7 arg9 x0 x1 x2 x3 x4 j.val j.isLt (ix3 0 r l) := by
  unfold out0_A_5
  rw [pieces_eq, View.read_writes_junk_eq_canon]
  generalize block arg3 harg3 arg4 harg4 arg5 harg5 arg6 harg6 arg7 harg7 arg9 x0 x1 x2 x3 x4 = B
  canon_tiles x e
  all_goals
    change 256 * j.val + r.val = _ at e1
    change l.val = _ at e2
    exact same_block B _ _ x j r l (by omega) (by omega) (by omega)

end loads

variable (m : (ℓ : Loc nD τ sig) → Buf (Elt Ideal) ℓ)

/-- Which block each window stages at grid point `t`: batch `t / 8`, key-value group `t / 4 % 2`, block of query rows `t % 4`. -/
theorem idx : ∀ t : Fin cfg0.N, win0_0.index t = ![t.val / 8, t.val % 4, t.val / 4 % 2] ∧ win0_1.index t = ![t.val / 8, 0, t.val / 4 % 2]
    ∧ win0_2.index t = ![t.val / 8, 0, t.val / 4 % 2, 0] ∧ win0_3.index t = ![t.val / 8, 0, t.val / 4 % 2]
    ∧ win0_4.index t = ![t.val / 8, 0, t.val / 4 % 2, 0] ∧ win0_5.index t = ![t.val / 8, t.val % 4, t.val / 4 % 2] :=
  (by decide +kernel : ∀ t : Fin grid0.N, _)

/-- The batch of grid point `t`. -/
def batch (t : Fin cfg0.N) : Fin 4 := ⟨t.val / 8, by have := t.isLt; change t.val < 32 at this; omega⟩

/-- The key-value group of grid point `t`. -/
def grp (t : Fin cfg0.N) : Fin 2 := ⟨t.val / 4 % 2, by omega⟩

/-- The array row at which row `s` of point `t`'s block sits. -/
def arow (t : Fin cfg0.N) (s : Fin 1024) : Fin 4096 := ⟨t.val % 4 * 1024 + s.val, by omega⟩

/-- Two halves laid side by side twice each: lane `l` is lane `l % 64` of half `l / 128`. -/
theorem joined {N : ℕ} (lo hi : (⟨3, ![4, N, 64]⟩ : Shape).Idx → EReal) (x : (⟨3, ![4, N, 128]⟩ : Shape).Idx → EReal)
    (hlo : ∀ b n (d : Fin 64), lo (ix3 b n d) = x (ix3 b n ⟨d.val, by omega⟩))
    (hhi : ∀ b n (d : Fin 64), hi (ix3 b n d) = x (ix3 b n ⟨64 + d.val, by omega⟩))
    (h : Shape.Concatenates [⟨3, ![4, N, 64]⟩, ⟨3, ![4, N, 64]⟩, ⟨3, ![4, N, 64]⟩, ⟨3, ![4, N, 64]⟩] ⟨3, ![4, N, 256]⟩ 2)
    (b : Fin 4) (n : Fin N) (l : Fin 256) :
    concatenate ⟨3, ![4, N, 256]⟩ 2 (List.ofFn fun q : Fin 4 => (⟨⟨3, ![4, N, 64]⟩, ![lo, lo, hi, hi] q⟩ : (s : Shape) × (s.Idx → EReal))) h (ix3 b n l)
      = x (ix3 b n ⟨64 * (l.val / 128) + l.val % 64, by omega⟩) := by
  refine (concatenate_ofFn_apply (t := ⟨3, ![4, N, 256]⟩) (s₁ := ⟨3, ![4, N, 64]⟩) 2 ![lo, lo, hi, hi] _ rfl 64 rfl (ix3 b n l) ⟨l.val / 64, by omega⟩ rfl
    (ix3 b n ⟨l.val % 64, by omega⟩) rfl (by intro a ha; fin_cases a <;> first | rfl | exact absurd rfl ha)).trans ?_
  have hl : l.val / 64 = 0 ∨ l.val / 64 = 1 ∨ l.val / 64 = 2 ∨ l.val / 64 = 3 := by omega
  rcases hl with e | e | e | e <;> simp only [e]
  · exact (hlo _ _ _).trans (congrArg x (congrArg (ix3 b n) (Fin.ext (by simp only; omega))))
  · exact (hlo _ _ _).trans (congrArg x (congrArg (ix3 b n) (Fin.ext (by simp only; omega))))
  · exact (hhi _ _ _).trans (congrArg x (congrArg (ix3 b n) (Fin.ext (by simp only; omega))))
  · exact (hhi _ _ _).trans (congrArg x (congrArg (ix3 b n) (Fin.ext (by simp only; omega))))

/-- The prepared keys of array 1: each group's 64 lanes, twice. -/
theorem prepared4 (c : Dev nD) (b : Fin 4) (n : Fin 4096) (l : Fin 256) : (V m c main_v4 : FVec Ideal S4x4096x256 .bf16) (ix3 b n l)
    = m ((c.tc : Thread nD τ).loc main_arg1) (ix3 b n ⟨64 * (l.val / 128) + l.val % 64, by omega⟩) := by
  have e : (V m c main_v4 : FVec Ideal S4x4096x256 .bf16) = truncf (F := Ideal) .bf16 (concatenate S4x4096x256 2
      (List.ofFn fun q : Fin 4 => (⟨S4x4096x64, ![extractStridedSlice S4x4096x64 ![0, 0, 0] (m ((c.tc : Thread nD τ).loc main_arg1) : FVec Ideal S4x4096x128 .f32) slices_S4x4096x128_S4x4096x64_0_0_0,
        extractStridedSlice S4x4096x64 ![0, 0, 0] (m ((c.tc : Thread nD τ).loc main_arg1) : FVec Ideal S4x4096x128 .f32) slices_S4x4096x128_S4x4096x64_0_0_0,
        extractStridedSlice S4x4096x64 ![0, 0, 64] (m ((c.tc : Thread nD τ).loc main_arg1) : FVec Ideal S4x4096x128 .f32) slices_S4x4096x128_S4x4096x64_0_0_64,
        extractStridedSlice S4x4096x64 ![0, 0, 64] (m ((c.tc : Thread nD τ).loc main_arg1) : FVec Ideal S4x4096x128 .f32) slices_S4x4096x128_S4x4096x64_0_0_64] q⟩ : (s : Shape) × (s.Idx → EReal)))
      concatenates_S4x4096x64_S4x4096x64_S4x4096x64_S4x4096x64_S4x4096x256_d2) bitsLt_bf16_f32 := by
    show StableHlo.after hostOps0 _ _ = _
    unfold hostOps0
    after_results
    rfl
  rw [e]
  exact joined (N := 4096) _ _ _ (fun b n d => by pointwise) (fun b n d => by pointwise) concatenates_S4x4096x64_S4x4096x64_S4x4096x64_S4x4096x64_S4x4096x256_d2 b n l

/-- The prepared keys of array 3: each group's 64 lanes, twice. -/
theorem prepared11 (c : Dev nD) (b : Fin 4) (n : Fin 256) (l : Fin 256) : (V m c main_v11 : FVec Ideal S4x256x256 .bf16) (ix3 b n l)
    = m ((c.tc : Thread nD τ).loc main_arg3) (ix3 b n ⟨64 * (l.val / 128) + l.val % 64, by omega⟩) := by
  have e : (V m c main_v11 : FVec Ideal S4x256x256 .bf16) = truncf (F := Ideal) .bf16 (concatenate S4x256x256 2
      (List.ofFn fun q : Fin 4 => (⟨S4x256x64, ![extractStridedSlice S4x256x64 ![0, 0, 0] (m ((c.tc : Thread nD τ).loc main_arg3) : FVec Ideal S4x256x128 .f32) slices_S4x256x128_S4x256x64_0_0_0,
        extractStridedSlice S4x256x64 ![0, 0, 0] (m ((c.tc : Thread nD τ).loc main_arg3) : FVec Ideal S4x256x128 .f32) slices_S4x256x128_S4x256x64_0_0_0,
        extractStridedSlice S4x256x64 ![0, 0, 64] (m ((c.tc : Thread nD τ).loc main_arg3) : FVec Ideal S4x256x128 .f32) slices_S4x256x128_S4x256x64_0_0_64,
        extractStridedSlice S4x256x64 ![0, 0, 64] (m ((c.tc : Thread nD τ).loc main_arg3) : FVec Ideal S4x256x128 .f32) slices_S4x256x128_S4x256x64_0_0_64] q⟩ : (s : Shape) × (s.Idx → EReal)))
      concatenates_S4x256x64_S4x256x64_S4x256x64_S4x256x64_S4x256x256_d2) bitsLt_bf16_f32 := by
    show StableHlo.after hostOps0 _ _ = _
    unfold hostOps0
    after_results
    rfl
  rw [e]
  exact joined (N := 256) _ _ _ (fun b n d => by pointwise) (fun b n d => by pointwise) concatenates_S4x256x64_S4x256x64_S4x256x64_S4x256x64_S4x256x256_d2 b n l

section
variable (c : Dev nD) (t : Fin cfg0.N)

/-- The queries of point `t`. -/
theorem blk0 (s : Fin 1024) (l : Fin 256) : (iblk m c 0 t : FVec Ideal S1x1024x256 .bf16) (ix3 0 s l)
    = m ((c.tc : Thread nD τ).loc main_arg0) (ix3 (batch t) (arow t s) ⟨t.val / 4 % 2 * 256 + l.val, by omega⟩) := by
  blk_point [iblk, V, idx t, batch, arow]

/-- The latent keys of point `t`: its group's 64 lanes, twice. -/
theorem blk1 (n : Fin 4096) (y : Fin 128) : (iblk m c 1 t : FVec Ideal S1x4096x128 .bf16) (ix3 0 n y)
    = m ((c.tc : Thread nD τ).loc main_arg1) (ix3 (batch t) n ⟨t.val / 4 % 2 * 64 + y.val % 64, by omega⟩) := by
  refine Eq.trans (b := (V m c main_v4 : FVec Ideal S4x4096x256 .bf16) (ix3 (batch t) n ⟨t.val / 4 % 2 * 128 + y.val, by omega⟩)) ?_ ?_
  · blk_point [iblk, idx t, batch, arow]
  · rw [prepared4]
    congr 3
    simp only
    omega

/-- The latent values of point `t`, transposed. -/
theorem blk2 (n : Fin 16) (d : Fin 64) (u : Fin 256) : (iblk m c 2 t : FVec Ideal S1x16x64x256 .bf16) (ix4 0 n d u)
    = m ((c.tc : Thread nD τ).loc main_arg2) (ix3 (batch t) ⟨n.val * 256 + u.val, by omega⟩ ⟨t.val / 4 % 2 * 64 + d.val, by omega⟩) := by
  blk_point [iblk, V, idx t, batch, arow]

/-- The context's keys of point `t`: its group's 64 lanes, twice. -/
theorem blk3 (n : Fin 256) (y : Fin 128) : (iblk m c 3 t : FVec Ideal S1x256x128 .bf16) (ix3 0 n y)
    = m ((c.tc : Thread nD τ).loc main_arg3) (ix3 (batch t) n ⟨t.val / 4 % 2 * 64 + y.val % 64, by omega⟩) := by
  refine Eq.trans (b := (V m c main_v11 : FVec Ideal S4x256x256 .bf16) (ix3 (batch t) n ⟨t.val / 4 % 2 * 128 + y.val, by omega⟩)) ?_ ?_
  · blk_point [iblk, idx t, batch, arow]
  · rw [prepared11]
    congr 3
    simp only
    omega

/-- The context's values of point `t`, transposed. -/
theorem blk4 (d : Fin 64) (u : Fin 256) : (iblk m c 4 t : FVec Ideal S1x1x64x256 .bf16) (ix4 0 0 d u)
    = m ((c.tc : Thread nD τ).loc main_arg4) (ix3 (batch t) u ⟨t.val / 4 % 2 * 64 + d.val, by omega⟩) := by
  blk_point [iblk, V, idx t, batch, arow]

/-- The reference's result as a function of the kernel's argument arrays. -/
abbrev REF (c : Dev nD) : FVec Ideal S4x4096x512 .bf16 :=
  Cert.GqaRefIdeal.Read.val_main_v25 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

variable (qr : S4x4096x512.Idx → ℝ) (kr : S4x4096x128.Idx → ℝ) (ckr : S4x256x128.Idx → ℝ)
  (hq : ∀ i, m ((c.tc : Thread nD τ).loc main_arg0) i = (qr i : EReal)) (hk : ∀ i, m ((c.tc : Thread nD τ).loc main_arg1) i = (kr i : EReal))
  (hck : ∀ i, m ((c.tc : Thread nD τ).loc main_arg3) i = (ckr i : EReal))
include hq hk hck

/-- What point `t` stores at row `256 j + r`, lane `64 h + d` of its block is the attention of that row and head. -/
theorem stored_point (j : Fin 4) (r : Fin 256) (h : Fin 4) (d : Fin 64) :
    (outsAt0 m c t : FVec Ideal S1x1024x256 .bf16) (ix3 0 ⟨256 * j.val + r.val, by omega⟩ ⟨64 * h.val + d.val, by omega⟩)
      = attend qr kr ckr (m ((c.tc : Thread nD τ).loc main_arg2)) (m ((c.tc : Thread nD τ).loc main_arg4)) (batch t)
          (arow t ⟨256 * j.val + r.val, by omega⟩) ⟨4 * (t.val / 4 % 2) + h.val, by omega⟩ d := by
  unfold outsAt0
  rw [out_at]
  unfold block
  rw [loadS_eq]
  have hQ : ∀ d : Fin 64, loadQ (ms0_0 t) (hs0_0 t) (iblk m c 0 t) j.val j.isLt (ix3 0 r ⟨64 * h.val + d.val, by omega⟩)
      = ((qr (ix3 (batch t) (arow t ⟨256 * j.val + r.val, by omega⟩) ⟨64 * (4 * (t.val / 4 % 2) + h.val) + d.val, by omega⟩) : ℝ) : EReal) := by
    intro d
    rw [loadQ_at, blk0, hq]
    exact congrArg (fun r : ℝ => (r : EReal)) (congrArg qr (congrArg₂ (ix3 _) rfl (Fin.ext (by simp only; omega))))
  refine stored_at _ _ _ _ _ _
    (score qr kr ckr (batch t) (arow t ⟨256 * j.val + r.val, by omega⟩) ⟨4 * (t.val / 4 % 2) + h.val, by omega⟩)
    (fun d s => keyAt (α := EReal) (m ((c.tc : Thread nD τ).loc main_arg2)) (m ((c.tc : Thread nD τ).loc main_arg4)) (batch t) s
      ⟨64 * ((4 * (t.val / 4 % 2) + h.val) / 4) + d.val, by omega⟩)
    ⟨256 * h.val + r.val, by omega⟩ h d r rfl ?_ ?_ ?_ ?_ ?_
  · intro x
    refine score_real _ _ h r x (fun d => qr (ix3 (batch t) (arow t ⟨256 * j.val + r.val, by omega⟩) ⟨64 * (4 * (t.val / 4 % 2) + h.val) + d.val, by omega⟩))
      (fun d => keyAt kr ckr (batch t) (keyIdx 0 (by norm_num) x) ⟨64 * ((4 * (t.val / 4 % 2) + h.val) / 4) + d.val, by omega⟩) hQ fun y => ?_
    rw [loadKc_at, blk3, hck, keyAt, dif_pos (show (keyIdx 0 (by norm_num) x).val < 256 by unfold keyIdx; simp only; omega)]
    exact congrArg (fun r : ℝ => (r : EReal)) (congrArg ckr (congrArg₂ (ix3 _) (Fin.ext rfl) (Fin.ext (by simp only; omega))))
  · intro x
    refine score_real _ _ h r x (fun d => qr (ix3 (batch t) (arow t ⟨256 * j.val + r.val, by omega⟩) ⟨64 * (4 * (t.val / 4 % 2) + h.val) + d.val, by omega⟩))
      (fun d => keyAt kr ckr (batch t) (keyIdx 1 (by norm_num) x) ⟨64 * ((4 * (t.val / 4 % 2) + h.val) / 4) + d.val, by omega⟩) hQ fun y => ?_
    rw [loadKc_at, blk3, hck, keyAt, dif_pos (show (keyIdx 1 (by norm_num) x).val < 256 by unfold keyIdx; simp only; omega)]
    exact congrArg (fun r : ℝ => (r : EReal)) (congrArg ckr (congrArg₂ (ix3 _) (Fin.ext rfl) (Fin.ext (by simp only; omega))))
  · intro p hp x
    refine score_real _ _ h r x (fun d => qr (ix3 (batch t) (arow t ⟨256 * j.val + r.val, by omega⟩) ⟨64 * (4 * (t.val / 4 % 2) + h.val) + d.val, by omega⟩))
      (fun d => keyAt kr ckr (batch t) (keyIdx (p + 2) (by omega) x) ⟨64 * ((4 * (t.val / 4 % 2) + h.val) / 4) + d.val, by omega⟩) hQ fun y => ?_
    rw [loadK_at, blk1, hk, keyAt, dif_neg (show ¬(keyIdx (p + 2) (by omega) x).val < 256 by unfold keyIdx; simp only; omega)]
    exact congrArg (fun r : ℝ => (r : EReal)) (congrArg kr (congrArg₂ (ix3 _) (Fin.ext (by unfold keyIdx; simp only; omega)) (Fin.ext (by simp only; omega))))
  · intro d x
    rw [loadVc_at, blk4, keyAt, dif_pos (show x.val < 256 from x.isLt)]
    exact congrArg _ (congrArg₂ (ix3 _) (Fin.ext rfl) (Fin.ext (by simp only; omega)))
  · intro n hn d x
    rw [loadV_at, blk2, keyAt, dif_neg (show ¬(256 * (n + 1) + x.val < 256) by omega)]
    exact congrArg _ (congrArg₂ (ix3 _) (Fin.ext (by simp only; omega)) (Fin.ext (by simp only; omega)))

/-- What point `t` stores at row `s`, lane `l` of its block is the reference at the place where that element sits. -/
theorem point (s : Fin 1024) (l : Fin 256) :
    (outsAt0 m c t : FVec Ideal S1x1024x256 .bf16) (ix3 0 s l) = REF m c (ix3 (batch t) (arow t s) ⟨t.val / 4 % 2 * 256 + l.val, by omega⟩) := by
  have e := stored_point m c t qr kr ckr hq hk hck ⟨s.val / 256, by omega⟩ ⟨s.val % 256, by omega⟩ ⟨l.val / 64, by omega⟩ ⟨l.val % 64, by omega⟩
  have e' := v25_at (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) qr kr ckr hq hk hck (batch t) (arow t s)
    ⟨4 * (t.val / 4 % 2) + l.val / 64, by omega⟩ ⟨l.val % 64, by omega⟩
  have hs : (⟨256 * (s.val / 256) + s.val % 256, by omega⟩ : Fin 1024) = s := Fin.ext (by simp only; omega)
  have hl : (⟨64 * (l.val / 64) + l.val % 64, by omega⟩ : Fin 256) = l := Fin.ext (by simp only; omega)
  have hl' : (⟨64 * (4 * (t.val / 4 % 2) + l.val / 64) + l.val % 64, by omega⟩ : Fin 512) = ⟨t.val / 4 % 2 * 256 + l.val, by omega⟩ :=
    Fin.ext (by simp only; omega)
  simp only [hs, hl] at e
  simp only [hl'] at e'
  exact e.trans e'.symm

/-- The result array after the run is the reference's value of the argument arrays. -/
theorem final : (dats m 0 c).arrAt 5 (cfgs 0).N = REF m c := by
  refine (dats m 0 c).arrAt_eq_of_covers 5 _ (by decide +kernel) fun t _ y => ?_
  blk_simp
  rw [after0_5]
  have he : (win0_5.blk t).view.emb y = ix3 (batch t) (arow t (y 1)) ⟨t.val / 4 % 2 * 256 + (y 2).val, by have : (y 2).val < 256 := (y 2).isLt; omega⟩ := by
    blk_ext [idx t, batch, arow]
  have hy : y = ix3 0 (y 1) (y 2) := by blk_ext
  refine (congrArg _ hy).trans ((point m c t qr kr ckr hq hk hck (y 1) (y 2)).trans ?_)
  exact (congrArg (REF m c) he).symm

end

end Cert.Proof.Gqa

end
-- ==== Proof.GqaClaim.lean ====
/-
  The attention's value claim: for finite queries and keys the kernel and the reference end with equal results.
-/
module

public import proofs.«01_k».proof.Defs
public import proofs.«01_k».proof.Proof.GqaValue
public import proofs.«01_k».proof.Proof.Gen.GqaIdeal
public import proofs.«01_k».proof.Proof.Gen.GqaRefIdeal
public import proofs.«01_k».proof.Proof.Gen.Pre_gqa_finite
public import Idealize.ShloMosaic.Lib.Claim
public import Idealize.ShloMosaic.Lib.ReduceAll

@[expose] public section

set_option maxRecDepth 16384

noncomputable section

namespace Cert.Proof.Gqa

open Idealize.ShloMosaic Idealize.ShloMosaic.TcCoe Idealize.SL.Sem

/-- A number whose absolute value compares below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The precondition says that every query and every key is a real number. -/
theorem finite_of_pre (q : FVec Ideal Cert.Pre_gqa_finite.S4x4096x512 .f32) (k v : FVec Ideal Cert.Pre_gqa_finite.S4x4096x128 .f32)
    (ck cv : FVec Ideal Cert.Pre_gqa_finite.S4x256x128 .f32) (i : Cert.Pre_gqa_finite.S_.Idx)
    (h : Cert.Pre_gqa_finite.fn (F := Ideal) q k v ck cv i = 1#1) :
    (∀ i, ∃ r : ℝ, q i = (r : EReal)) ∧ (∀ i, ∃ r : ℝ, k i = (r : EReal)) ∧ (∀ i, ∃ r : ℝ, ck i = (r : EReal)) := by
  have := Cert.Pre_gqa_finite.Gen.facts
  haveI : Subsingleton Cert.Pre_gqa_finite.S_.Idx := ⟨fun a b => by funext n; exact n.elim0⟩
  dsimp only [Cert.Pre_gqa_finite.fn] at h
  obtain ⟨h12, h3⟩ := IntOp.andi_eq_one.1 h
  obtain ⟨h1, h2⟩ := IntOp.andi_eq_one.1 h12
  refine ⟨fun a => real_of_lt _ ?_, fun a => real_of_lt _ ?_, fun a => real_of_lt _ ?_⟩
  · exact Host.reduce_andi_all _ _ _ _ _ h1 a
  · exact Host.reduce_andi_all _ _ _ _ _ h2 a
  · exact Host.reduce_andi_all _ _ _ _ _ h3 a

/-- For finite queries and keys the attention call and its reference end with equal results from equal arguments. -/
theorem algebraic : Cert.algebraic_GqaIdeal_GqaRefIdeal_pre_gqa_finite (hGqaIdeal := Cert.GqaIdeal.Gen.facts)
    (hGqaRefIdeal := Cert.GqaRefIdeal.Gen.facts) (hPre_gqa_finite := Cert.Pre_gqa_finite.Gen.facts) := by
  pair_intro
  · run_from Cert.GqaIdeal.Gen.run_main m g
  · run_from Cert.GqaRefIdeal.Value.run m' g'
    obtain ⟨hq, hk, hck⟩ := finite_of_pre _ _ _ _ _ (fun a => a.elim0) (congrFun (hpre c) _)
    choose qr hq using hq
    choose kr hk using hk
    choose ckr hck using hck
    rw [Cert.Proof.Gqa.final m c qr kr ckr hq hk hck, Cert.GqaRefIdeal.Read.val_main_v25_eq]
    obtain ⟨h0, h1, h2, h3, h4⟩ := hagree c
    rw [h0, h1, h2, h3, h4]

end Cert.Proof.Gqa

end
-- ==== Proof.MergeRow.lean ====
/- The mathematics of the merge call, row by row: what one row of its result is (`row`), as a function of one row of the
   stream, of the two attentions' rows, of the modulation and of the layer's weights. Both programs are read against it. -/
module

public import Idealize.ShloMosaic.PureOps.Ideal.Laws
public import Idealize.ShloMosaic.Lib.Pointwise

@[expose] public section

noncomputable section

namespace Cert.Proof.Merge

open Idealize.ShloMosaic

/-- The modulated norm of a row `x`: `x · rsqrt(mean x² + ε) · (g · (1 + scale)) + shift`, at lane `k`. -/
def hidden (x g sc sh : Fin 1024 → EReal) (k : Fin 1024) : EReal :=
  x k * Ideal.rsqrt (Ideal.div (∑ j, x j * x j) (Ideal.ofBits .f32 0x44800000#32) + Ideal.ofBits .f32 0x358637BD#32)
    * (g k * (1 + sc k)) + sh k

/-- One lane of a product with the input weights. -/
def proj (h w : Fin 1024 → EReal) : EReal := ∑ k, h k * w k

/-- One lane of an attention's output product: its row gated by `silu z`, times a column of the weights. -/
def branch (a z w : Fin 512 → EReal) : EReal := ∑ q, a q * (z q * Ideal.logistic (z q)) * w q

/-- One lane of the two gated branches' sum: `w` has the 5376 lanes of the input weights, of which this part reads the two
    attention gates (from 2304 and from 2816) and the two merge gates (from 3328 and from 4352). -/
def merged (h : Fin 1024 → EReal) (a b : Fin 512 → EReal) (w : Fin 1024 → Fin 5376 → EReal)
    (wa wb : Fin 512 → Fin 1024 → EReal) (j : Fin 1024) : EReal :=
  Ideal.logistic (proj h fun k => w k ⟨3328 + j.val, by omega⟩)
      * branch a (fun q => proj h fun k => w k ⟨2304 + q.val, by omega⟩) (fun q => wa q j)
    + Ideal.logistic (proj h fun k => w k ⟨4352 + j.val, by omega⟩)
      * branch b (fun q => proj h fun k => w k ⟨2816 + q.val, by omega⟩) (fun q => wb q j)

/-- Lane `o` of a row of the result: the row itself plus its gate times the merged branches' product. -/
def row (x g sc sh gt : Fin 1024 → EReal) (a b : Fin 512 → EReal) (w : Fin 1024 → Fin 5376 → EReal)
    (wa wb : Fin 512 → Fin 1024 → EReal) (wo : Fin 1024 → Fin 1024 → EReal) (o : Fin 1024) : EReal :=
  x o + gt o * ∑ j, merged (hidden x g sc sh) a b w wa wb j * wo j o

end Cert.Proof.Merge

end
-- ==== Proof.MergeKernel.lean ====
/- The merge kernel's stored values, read at one index. -/
module

public import proofs.«01_k».proof.Proof.Gen.MergeIdeal.Value
public import proofs.«01_k».proof.Proof.MergeRow
public import Idealize.ShloMosaic.Lib.Pipeline.ValueKit

@[expose] public section

set_option maxRecDepth 16384

noncomputable section

namespace Cert.Proof.Merge

open Cert.MergeIdeal Cert.MergeIdeal.Gen Idealize.ShloMosaic Idealize.ShloMosaic.TcCoe Idealize.SL.Sem

/-- The block's modulated norm, one element. -/
theorem pay3_at (v : FVec Ideal S1x1024x1024 .f32) (g : FVec Ideal S1x1024 .f32) (sc sh : FVec Ideal S1x1x1024 .f32) (s k : Fin 1024) :
    k0_pay3 (F := Ideal) v g sc sh (ix2 s k)
      = hidden (fun k => v (ix3 0 s k)) (fun k => g (ix2 0 k)) (fun k => sc (ix3 0 0 k)) (fun k => sh (ix3 0 0 k)) k := by
  unfold hidden
  pointwise [k0_pay3, k0_pay2]

/-- The first attention's gate before `silu`: the modulated norm times its columns of the weights. -/
theorem pay4_at (v : FVec Ideal S1x1024x1024 .f32) (g : FVec Ideal S1x1024 .f32) (sc sh : FVec Ideal S1x1x1024 .f32)
    (w : FVec Ideal S1x1024x512 .bf16) (s : Fin 1024) (q : Fin 512) :
    k0_pay4 (F := Ideal) v g sc sh w (ix2 s q) = proj (fun k => k0_pay3 (F := Ideal) v g sc sh (ix2 s k)) (fun k => w (ix3 0 k q)) := by
  unfold proj
  pointwise [k0_pay4]

/-- The second attention's gate before `silu`, likewise. -/
theorem pay5_at (v : FVec Ideal S1x1024x1024 .f32) (g : FVec Ideal S1x1024 .f32) (sc sh : FVec Ideal S1x1x1024 .f32)
    (w : FVec Ideal S1x1024x512 .bf16) (s : Fin 1024) (q : Fin 512) :
    k0_pay5 (F := Ideal) v g sc sh w (ix2 s q) = proj (fun k => k0_pay3 (F := Ideal) v g sc sh (ix2 s k)) (fun k => w (ix3 0 k q)) := by
  unfold proj
  pointwise [k0_pay5]

/-- The block of the stream, one element. -/
theorem pay2_at (v : FVec Ideal S1x1024x1024 .f32) (s k : Fin 1024) : k0_pay2 (F := Ideal) v (ix2 s k) = v (ix3 0 s k) := by
  pointwise [k0_pay2]

/-- The batch's gate, one element. -/
theorem pay6_at (g : FVec Ideal S1x1x1024 .f32) (k : Fin 1024) : k0_pay6 (F := Ideal) g (ix2 0 k) = g (ix3 0 0 k) := by
  pointwise [k0_pay6]

/-- The merged attentions, one element. -/
theorem pay7_at (h : FVec Ideal S1024x1024 .bf16) (za zb : FVec Ideal S1024x512 .f32) (wg wh : FVec Ideal S1x1024x1024 .bf16)
    (a : FVec Ideal S1x1024x512 .bf16) (wa : FVec Ideal S1x512x1024 .bf16) (b : FVec Ideal S1x1024x512 .bf16) (wb : FVec Ideal S1x512x1024 .bf16)
    (s j : Fin 1024) :
    k0_pay7 (F := Ideal) h za zb wg wh a wa b wb (ix2 s j)
      = Ideal.logistic (proj (fun k => h (ix2 s k)) fun k => wg (ix3 0 k j))
          * branch (fun q => a (ix3 0 s q)) (fun q => za (ix2 s q)) (fun q => wa (ix3 0 q j))
        + Ideal.logistic (proj (fun k => h (ix2 s k)) fun k => wh (ix3 0 k j))
          * branch (fun q => b (ix3 0 s q)) (fun q => zb (ix2 s q)) (fun q => wb (ix3 0 q j)) := by
  unfold proj branch
  pointwise [k0_pay7]

/-- The stored block: the stream plus the gated product with the output weights. -/
theorem pay1_at (v : FVec Ideal S1024x1024 .f32) (gt : FVec Ideal S1x1024 .f32) (mg : FVec Ideal S1024x1024 .bf16)
    (wo : FVec Ideal S1x1024x1024 .bf16) (z : Fin 1) (s o : Fin 1024) :
    k0_pay1 (F := Ideal) v gt mg wo (ix3 z s o) = v (ix2 s o) + gt (ix2 0 o) * ∑ j : Fin 1024, mg (ix2 s j) * wo (ix3 0 j o) := by
  pointwise [k0_pay1]

end Cert.Proof.Merge

end
-- ==== Proof.MergeReference.lean ====
/- The merge's reference, read at one index. -/
module

public import proofs.«01_k».proof.Proof.Gen.MergeRefIdeal.Read
public import proofs.«01_k».proof.Proof.MergeRow
public import Idealize.ShloMosaic.Lib.Pipeline.ValueKit

@[expose] public section

set_option maxRecDepth 16384

noncomputable section

namespace Cert.Proof.Merge

open Cert.MergeRefIdeal Cert.MergeRefIdeal.Read Idealize.ShloMosaic Idealize.ShloMosaic.TcCoe Idealize.SL.Sem

/-- The modulated norm of row `(b, s)`, the modulation's first two thirds being the shift and the scale. -/
def refHidden (X : FVec Ideal S4x4096x1024 .f32) (M : FVec Ideal S4x3072 .f32) (G : FVec Ideal S2x1024 .f32) (b : Fin 4) (s : Fin 4096) :
    Fin 1024 → EReal :=
  hidden (fun k => X (ix3 b s k)) (fun k => G (ix2 1 k)) (fun k => M (ix2 b ⟨1024 + k.val, by omega⟩)) (fun k => M (ix2 b ⟨k.val, by omega⟩))

/-- The reference's modulated norm, one element. -/
theorem v32_at (X : FVec Ideal S4x4096x1024 .f32) (M : FVec Ideal S4x3072 .f32) (G : FVec Ideal S2x1024 .f32) (b : Fin 4) (s : Fin 4096) (k : Fin 1024) :
    val_main_v32 (F := Ideal) X M G (ix3 b s k) = refHidden X M G b s k := by
  unfold refHidden hidden
  pointwise [val_main_v32, val_main_v31, val_main_v30, val_main_v29, val_main_v28, val_main_v27, val_main_cst_2, val_main_v26,
    val_main_v25, val_main_v24, val_main_v23, val_main_v22, val_main_v21, val_main_v20, val_main_v19, val_main_cst_1, val_main_v18,
    val_main_v17, val_main_cst_0, val_main_v16, val_main_v15, val_main_cst, val_main_v14, val_main_v12, val_main_v11, val_main_v10,
    val_main_v9, val_main_v8]
  rw [mul_assoc _ (G _) _]

/-- The reference's input projection, one element. -/
theorem v33_at (X : FVec Ideal S4x4096x1024 .f32) (M : FVec Ideal S4x3072 .f32) (G : FVec Ideal S2x1024 .f32)
    (W : FVec Ideal S2x1024x5376 .f32) (b : Fin 4) (s : Fin 4096) (n : Fin 5376) :
    val_main_v33 (F := Ideal) X M G W (ix3 b s n) = proj (refHidden X M G b s) fun k => W (ix3 1 k n) := by
  unfold proj
  pointwise [val_main_v33, val_main_v1, val_main_v0]
  simp only [v32_at]

/-- The first attention's gated output after its weights, one element. -/
theorem v40_at (A : FVec Ideal S4x4096x512 .f32) (X : FVec Ideal S4x4096x1024 .f32) (M : FVec Ideal S4x3072 .f32) (G : FVec Ideal S2x1024 .f32)
    (W : FVec Ideal S2x1024x5376 .f32) (Wa : FVec Ideal S2x512x1024 .f32) (b : Fin 4) (s : Fin 4096) (j : Fin 1024) :
    val_main_v40 (F := Ideal) A X M G W Wa (ix3 b s j)
      = branch (fun q => A (ix3 b s q)) (fun q => proj (refHidden X M G b s) fun k => W (ix3 1 k ⟨2304 + q.val, by omega⟩)) (fun q => Wa (ix3 1 q j)) := by
  unfold branch
  pointwise [val_main_v40, val_main_v39, val_main_v38, val_main_call0_v5, val_main_call0_v4, val_main_call0_cst_0, val_main_call0_v3,
    val_main_call0_v2, val_main_call0_cst, val_main_call0_v1, val_main_call0_v0, val_main_v34, val_main_v3, val_main_v2]
  simp only [v33_at]
  rfl

/-- The second attention's gated output after its weights, one element. -/
theorem v43_at (B : FVec Ideal S4x4096x512 .f32) (X : FVec Ideal S4x4096x1024 .f32) (M : FVec Ideal S4x3072 .f32) (G : FVec Ideal S2x1024 .f32)
    (W : FVec Ideal S2x1024x5376 .f32) (Wb : FVec Ideal S2x512x1024 .f32) (b : Fin 4) (s : Fin 4096) (j : Fin 1024) :
    val_main_v43 (F := Ideal) B X M G W Wb (ix3 b s j)
      = branch (fun q => B (ix3 b s q)) (fun q => proj (refHidden X M G b s) fun k => W (ix3 1 k ⟨2816 + q.val, by omega⟩)) (fun q => Wb (ix3 1 q j)) := by
  unfold branch
  pointwise [val_main_v43, val_main_v42, val_main_v41, val_main_call1_v5, val_main_call1_v4, val_main_call1_cst_0, val_main_call1_v3,
    val_main_call1_v2, val_main_call1_cst, val_main_call1_v1, val_main_call1_v0, val_main_v35, val_main_v5, val_main_v4]
  simp only [v33_at]
  rfl

/-- The reference's merged attentions, one element. -/
theorem v58_at (A B : FVec Ideal S4x4096x512 .f32) (X : FVec Ideal S4x4096x1024 .f32) (M : FVec Ideal S4x3072 .f32) (G : FVec Ideal S2x1024 .f32)
    (W : FVec Ideal S2x1024x5376 .f32) (Wa Wb : FVec Ideal S2x512x1024 .f32) (b : Fin 4) (s : Fin 4096) (j : Fin 1024) :
    val_main_v58 (F := Ideal) A B X M G W Wa Wb (ix3 b s j)
      = merged (refHidden X M G b s) (fun q => A (ix3 b s q)) (fun q => B (ix3 b s q)) (fun k n => W (ix3 1 k n))
          (fun q o => Wa (ix3 1 q o)) (fun q o => Wb (ix3 1 q o)) j := by
  unfold merged
  pointwise [val_main_v58, val_main_v57, val_main_v56, val_main_v55, val_main_cst_6, val_main_v54, val_main_v53, val_main_cst_5,
    val_main_v52, val_main_v51, val_main_v50, val_main_v49, val_main_v48, val_main_cst_4, val_main_v47, val_main_v46, val_main_cst_3,
    val_main_v45, val_main_v44, val_main_v37, val_main_v36]
  simp only [v33_at, v40_at, v43_at]
  rfl

/-- The reference's result, one element. -/
theorem v62_at (A B : FVec Ideal S4x4096x512 .f32) (X : FVec Ideal S4x4096x1024 .f32) (M : FVec Ideal S4x3072 .f32) (G : FVec Ideal S2x1024 .f32)
    (W : FVec Ideal S2x1024x5376 .f32) (Wa Wb : FVec Ideal S2x512x1024 .f32) (Wo : FVec Ideal S2x1024x1024 .f32) (b : Fin 4) (s : Fin 4096) (o : Fin 1024) :
    val_main_v62 (F := Ideal) A B X M G W Wa Wb Wo (ix3 b s o)
      = row (fun k => X (ix3 b s k)) (fun k => G (ix2 1 k)) (fun k => M (ix2 b ⟨1024 + k.val, by omega⟩)) (fun k => M (ix2 b ⟨k.val, by omega⟩))
          (fun k => M (ix2 b ⟨2048 + k.val, by omega⟩)) (fun q => A (ix3 b s q)) (fun q => B (ix3 b s q)) (fun k n => W (ix3 1 k n))
          (fun q o => Wa (ix3 1 q o)) (fun q o => Wb (ix3 1 q o)) (fun j o => Wo (ix3 1 j o)) o := by
  unfold row
  pointwise [val_main_v62, val_main_v61, val_main_v60, val_main_v59, val_main_v13, val_main_v10, val_main_v7, val_main_v6]
  simp only [v58_at]
  rfl

end Cert.Proof.Merge

end
-- ==== Proof.MergeValue.lean ====
/- The array that the merge's kernel leaves is its reference's. -/
module

public import proofs.«01_k».proof.Proof.MergeKernel
public import proofs.«01_k».proof.Proof.MergeReference

@[expose] public section

set_option maxRecDepth 16384

noncomputable section

namespace Cert.Proof.Merge

open Cert.MergeIdeal Cert.MergeIdeal.Gen Cert.MergeRefIdeal.Read Idealize.ShloMosaic Idealize.ShloMosaic.TcCoe Idealize.SL.Sem
open Idealize.ShloMosaic.Pipeline (Dat)

variable (m : (ℓ : Loc nD τ sig) → Buf (Elt Ideal) ℓ)

/-- Which block each window stages at grid point `t`: batch `t / 4`, row block `t % 4`; the weights' second layer throughout. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![t.val / 4, 0, 0]
    ∧ win0_5.index t = ![t.val / 4, 0, 0] ∧ win0_6.index t = ![0, 0] ∧ win0_7.index t = ![1, 0, 0] ∧ win0_8.index t = ![1, 0, 0]
    ∧ win0_9.index t = ![1, 0, 0] ∧ win0_10.index t = ![1, 0, 0] ∧ win0_11.index t = ![t.val / 4, t.val % 4, 0] :=
  (by decide +kernel : ∀ t : Fin grid0.N, _)

/-- The reference's result as a function of the kernel's argument arrays. -/
abbrev REF (c : Dev nD) : FVec Ideal S4x4096x1024 .f32 :=
  val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- What a grid point's body stores at row `s`, lane `o` of its block is the row function of its input blocks. -/
theorem stored_at (x0 x1 : FVec Ideal S1x1024x512 .bf16) (x2 : FVec Ideal S1x1024x1024 .f32) (x3 x4 x5 : FVec Ideal S1x1x1024 .f32)
    (x6 : FVec Ideal S1x1024 .f32) (x7 : FVec Ideal S1x1024x5376 .bf16) (x8 x9 : FVec Ideal S1x512x1024 .bf16) (x10 : FVec Ideal S1x1024x1024 .bf16)
    (z : Fin 1) (s o : Fin 1024) :
    out0_11 (F := Ideal) x0 x1 x2 x3 x4 x5 x6 x7 x8 x9 x10 (ix3 z s o)
      = row (fun k => x2 (ix3 0 s k)) (fun k => x6 (ix2 0 k)) (fun k => x4 (ix3 0 0 k)) (fun k => x3 (ix3 0 0 k)) (fun k => x5 (ix3 0 0 k))
          (fun q => x0 (ix3 0 s q)) (fun q => x1 (ix3 0 s q)) (fun k n => x7 (ix3 0 k n)) (fun q j => x8 (ix3 0 q j)) (fun q j => x9 (ix3 0 q j))
          (fun j o => x10 (ix3 0 j o)) o := by
  frame_out
  simp only [pay1_at, pay7_at, pay5_at, pay4_at, pay3_at, pay2_at, pay6_at]
  unfold row merged
  pointwise [r0_3, r0_4, r0_5, r0_6]

/-- The batch of grid point `t`. -/
def batch (t : Fin cfg0.N) : Fin 4 := ⟨t.val / 4, by have := t.isLt; change t.val < 16 at this; omega⟩

/-- The array row at which row `s` of point `t`'s block sits. -/
def arow (t : Fin cfg0.N) (s : Fin 1024) : Fin 4096 := ⟨t.val % 4 * 1024 + s.val, by omega⟩

section
variable (c : Dev nD) (t : Fin cfg0.N)

/-- The first attention's output at point `t`. -/
theorem blk0 (s : Fin 1024) (q : Fin 512) : (iblk m c 0 t : FVec Ideal S1x1024x512 .bf16) (ix3 0 s q) = m ((c.tc : Thread nD τ).loc main_arg0) (ix3 (batch t) (arow t s) q) := by
  blk_point [iblk, V, idx t, batch, arow]

/-- The second attention's output at point `t`. -/
theorem blk1 (s : Fin 1024) (q : Fin 512) : (iblk m c 1 t : FVec Ideal S1x1024x512 .bf16) (ix3 0 s q) = m ((c.tc : Thread nD τ).loc main_arg1) (ix3 (batch t) (arow t s) q) := by
  blk_point [iblk, V, idx t, batch, arow]

/-- The stream at point `t`. -/
theorem blk2 (s k : Fin 1024) : (iblk m c 2 t : FVec Ideal S1x1024x1024 .f32) (ix3 0 s k) = m ((c.tc : Thread nD τ).loc main_arg2) (ix3 (batch t) (arow t s) k) := by
  blk_point [iblk, V, idx t, batch, arow]

/-- The shift of point `t`'s batch. -/
theorem blk3 (k : Fin 1024) : (iblk m c 3 t : FVec Ideal S1x1x1024 .f32) (ix3 0 0 k) = m ((c.tc : Thread nD τ).loc main_arg3) (ix2 (batch t) ⟨k.val, by omega⟩) := by
  blk_point [iblk, V, idx t, batch, arow]

/-- The scale of point `t`'s batch. -/
theorem blk4 (k : Fin 1024) : (iblk m c 4 t : FVec Ideal S1x1x1024 .f32) (ix3 0 0 k) = m ((c.tc : Thread nD τ).loc main_arg3) (ix2 (batch t) ⟨1024 + k.val, by omega⟩) := by
  blk_point [iblk, V, idx t, batch, arow]

/-- The gate of point `t`'s batch. -/
theorem blk5 (k : Fin 1024) : (iblk m c 5 t : FVec Ideal S1x1x1024 .f32) (ix3 0 0 k) = m ((c.tc : Thread nD τ).loc main_arg3) (ix2 (batch t) ⟨2048 + k.val, by omega⟩) := by
  blk_point [iblk, V, idx t, batch, arow]

/-- The second layer's gain of the norm. -/
theorem blk6 (k : Fin 1024) : (iblk m c 6 t : FVec Ideal S1x1024 .f32) (ix2 0 k) = m ((c.tc : Thread nD τ).loc main_arg4) (ix2 1 k) := by
  blk_point [iblk, V, idx t, batch, arow]

/-- The second layer's input weights. -/
theorem blk7 (k : Fin 1024) (n : Fin 5376) : (iblk m c 7 t : FVec Ideal S1x1024x5376 .bf16) (ix3 0 k n) = m ((c.tc : Thread nD τ).loc main_arg5) (ix3 1 k n) := by
  blk_point [iblk, V, idx t, batch, arow]

/-- The second layer's weights after the first attention. -/
theorem blk8 (q : Fin 512) (j : Fin 1024) : (iblk m c 8 t : FVec Ideal S1x512x1024 .bf16) (ix3 0 q j) = m ((c.tc : Thread nD τ).loc main_arg6) (ix3 1 q j) := by
  blk_point [iblk, V, idx t, batch, arow]

/-- The second layer's weights after the second attention. -/
theorem blk9 (q : Fin 512) (j : Fin 1024) : (iblk m c 9 t : FVec Ideal S1x512x1024 .bf16) (ix3 0 q j) = m ((c.tc : Thread nD τ).loc main_arg7) (ix3 1 q j) := by
  blk_point [iblk, V, idx t, batch, arow]

/-- The second layer's output weights. -/
theorem blk10 (j o : Fin 1024) : (iblk m c 10 t : FVec Ideal S1x1024x1024 .bf16) (ix3 0 j o) = m ((c.tc : Thread nD τ).loc main_arg8) (ix3 1 j o) := by
  blk_point [iblk, V, idx t, batch, arow]

/-- What point `t` stores at row `s`, lane `o` is the reference at the place where that element sits. -/
theorem point (z : Fin 1) (s o : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 z s o) = REF m c (ix3 (batch t) (arow t s) o) := by
  refine (stored_at _ _ _ _ _ _ _ _ _ _ _ z s o).trans (Eq.trans ?_ (v62_at _ _ _ _ _ _ _ _ _ (batch t) (arow t s) o).symm)
  simp only [blk0, blk1, blk2, blk3, blk4, blk5, blk6, blk7, blk8, blk9, blk10]
end

/-- The result array after the run is the reference's value of the argument arrays. -/
theorem final (c : Dev nD) : (dats m 0 c).arrAt 11 (cfgs 0).N = REF m c := by
  refine (dats m 0 c).arrAt_eq_of_covers 11 _ (by decide +kernel) fun t _ y => ?_
  blk_simp
  rw [after0_11]
  have he : (win0_11.blk t).view.emb y = ix3 (batch t) (arow t (y 1)) (y 2) := by
    blk_ext [idx t, batch, arow]
  have hy : y = ix3 (y 0) (y 1) (y 2) := by blk_ext
  refine (congrArg _ hy).trans ((point m c t (y 0) (y 1) (y 2)).trans ?_)
  exact (congrArg (REF m c) he).symm

end Cert.Proof.Merge

end
-- ==== Proof.MergeClaim.lean ====
/- The merge's value claim: kernel and reference end with equal results. -/
module

public import proofs.«01_k».proof.Defs
public import proofs.«01_k».proof.Proof.MergeValue
public import proofs.«01_k».proof.Proof.Gen.MergeIdeal
public import proofs.«01_k».proof.Proof.Gen.MergeRefIdeal
public import Idealize.ShloMosaic.Lib.Claim

@[expose] public section

set_option maxRecDepth 16384

noncomputable section

namespace Cert.Proof.Merge

open Idealize.ShloMosaic Idealize.ShloMosaic.TcCoe Idealize.SL.Sem

/-- The merge call and its reference end with equal results from equal arguments. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    rw [Cert.Proof.Merge.final m c, Cert.MergeRefIdeal.Read.val_main_v62_eq]
    obtain ⟨h0, h1, h2, h3, h4, h5, h6, h7, h8⟩ := hagree c
    rw [h0, h1, h2, h3, h4, h5, h6, h7, h8]

end Cert.Proof.Merge

end
-- ==== Proof.ProjRow.lean ====
/- Lane by lane, what the projection call computes: a product with the input weights, a head's norm, the rotary embedding. -/
module

public import proofs.«01_k».proof.Proof.MergeRow
public import Idealize.ShloMosaic.Lib.Pipeline.ValueKit

@[expose] public section

noncomputable section

namespace Cert.Proof.Proj

open Idealize.ShloMosaic Cert.Proof.Merge

/-- Lane `d` of one head's norm: `p · rsqrt(mean p² + ε) · g`, the mean over the head's 64 lanes. -/
def normed (p g : Fin 64 → EReal) (d : Fin 64) : EReal :=
  p d * Ideal.rsqrt (Ideal.div (∑ e, p e * p e) (Ideal.ofBits .f32 0x42800000#32) + Ideal.ofBits .f32 0x358637BD#32) * g d

/-- Lane `d` of one head turned by its token's angles: the head's first 32 lanes by the row angles `ar`, the others by the
    column angles `ac`; in each half lane `i < 16` and lane `16 + i` are a pair. -/
def turned (u : Fin 64 → EReal) (ar ac : Fin 16 → EReal) (d : Fin 64) : EReal :=
  if d.val < 16 then u d * Ideal.cos (ar ⟨d.val % 16, by omega⟩) - u ⟨(d.val + 16) % 64, by omega⟩ * Ideal.sin (ar ⟨d.val % 16, by omega⟩)
  else if d.val < 32 then u d * Ideal.cos (ar ⟨d.val % 16, by omega⟩) + u ⟨(d.val + 48) % 64, by omega⟩ * Ideal.sin (ar ⟨d.val % 16, by omega⟩)
  else if d.val < 48 then u d * Ideal.cos (ac ⟨d.val % 16, by omega⟩) - u ⟨(d.val + 16) % 64, by omega⟩ * Ideal.sin (ac ⟨d.val % 16, by omega⟩)
  else u d * Ideal.cos (ac ⟨d.val % 16, by omega⟩) + u ⟨(d.val + 48) % 64, by omega⟩ * Ideal.sin (ac ⟨d.val % 16, by omega⟩)

/-- A sum over `64 n` lanes that keeps one head's lanes is the sum over the head. -/
theorem head_sum {N : ℕ} (f : Fin N → EReal) (h : ℕ) (hN : h * 64 + 64 ≤ N) :
    ∑ k : Fin N, f k * (if k.val / 64 = h then 1 else 0) = ∑ e : Fin 64, f ⟨h * 64 + e.val, by omega⟩ := by
  simp only [mul_ite, mul_one, mul_zero]
  rw [← Finset.sum_filter]
  refine Finset.sum_nbij' (fun k => ⟨k.val % 64, by omega⟩) (fun e => ⟨h * 64 + e.val, by omega⟩) ?_ ?_ ?_ ?_ ?_
  · intro k _; exact Finset.mem_univ _
  · intro e _; simp only [Finset.mem_filter, Finset.mem_univ, true_and]; omega
  · intro k hk
    have hk := (Finset.mem_filter.mp hk).2
    exact Fin.ext (by simp only; omega)
  · intro e _; exact Fin.ext (by simp only; omega)
  · intro k hk
    have hk := (Finset.mem_filter.mp hk).2
    exact congrArg f (Fin.ext (by simp only; omega))

/-- The kernel's form of a head's norm: the sum of squares taken by a product with the 0/1 matrix of heads, and `1/64` a factor. -/
theorem normed_eq {N : ℕ} (p : Fin N → EReal) (g : EReal) (G : Fin 64 → EReal) (h : ℕ) (hN : h * 64 + 64 ≤ N) (d : Fin 64) (hg : g = G d) :
    p ⟨h * 64 + d.val, by omega⟩ * Ideal.rsqrt ((∑ k : Fin N, p k * p k * (if k.val / 64 = h then 1 else 0)) * Ideal.ofBits .f32 0x3C800000#32
        + Ideal.ofBits .f32 0x358637BD#32) * g
      = normed (fun e => p ⟨h * 64 + e.val, by omega⟩) G d := by
  have hc : Ideal.ofBits .f32 0x42800000#32 = ((64 : ℝ) : EReal) := by
    simp [Ideal.ofBits, Ideal.ieee]; rw [← EReal.coe_mul]; norm_num
  have hc' : Ideal.ofBits .f32 0x3C800000#32 = ((1 / 64 : ℝ) : EReal) := by
    simp [Ideal.ofBits, Ideal.ieee]; rw [← EReal.coe_mul]; norm_num
  unfold normed
  rw [head_sum (fun k => p k * p k) h hN, hg, hc, hc']
  rw [Ideal.div_coe (by norm_num)]

/-- The kernel's norm of lane `q`, where `S` is the column of the matrix of heads that belongs to the lane. -/
theorem head_norm {N : ℕ} (hN : N % 64 = 0) (p S : Fin N → EReal) (g : EReal) (G : Fin 64 → EReal) (q : Fin N)
    (hS : ∀ k, S k = if k.val / 64 = q.val / 64 then 1 else 0) (hg : g = G ⟨q.val % 64, by omega⟩) :
    p q * Ideal.rsqrt ((∑ k : Fin N, p k * p k * S k) * Ideal.ofBits .f32 0x3C800000#32 + Ideal.ofBits .f32 0x358637BD#32) * g
      = normed (fun e => p ⟨q.val / 64 * 64 + e.val, by omega⟩) G ⟨q.val % 64, by omega⟩ := by
  have e := normed_eq p g G (q.val / 64) (by omega) ⟨q.val % 64, by omega⟩ hg
  rw [← e]
  simp only [hS]
  rw [show (⟨q.val / 64 * 64 + q.val % 64, by omega⟩ : Fin N) = q from Fin.ext (by simp only; omega)]

/-- A head's turned lanes, where they are taken as four pieces of 16 lanes. -/
theorem turned_pieces (u : Fin 64 → EReal) (ar ac : Fin 16 → EReal) (d : Fin 64) :
    (if h1 : d.val < 16 then u d * Ideal.cos (ar ⟨d.val, h1⟩) - u ⟨16 + d.val, by omega⟩ * Ideal.sin (ar ⟨d.val, h1⟩)
      else if h2 : d.val - 16 < 16 then
        u ⟨16 + (d.val - 16), by omega⟩ * Ideal.cos (ar ⟨d.val - 16, h2⟩) + u ⟨d.val - 16, by omega⟩ * Ideal.sin (ar ⟨d.val - 16, h2⟩)
      else if h3 : d.val - 16 - 16 < 16 then
        u ⟨32 + (d.val - 16 - 16), by omega⟩ * Ideal.cos (ac ⟨d.val - 16 - 16, h3⟩)
          - u ⟨48 + (d.val - 16 - 16), by omega⟩ * Ideal.sin (ac ⟨d.val - 16 - 16, h3⟩)
      else u ⟨48 + (d.val - 16 - 16 - 16), by omega⟩ * Ideal.cos (ac ⟨d.val - 16 - 16 - 16, by omega⟩)
          + u ⟨32 + (d.val - 16 - 16 - 16), by omega⟩ * Ideal.sin (ac ⟨d.val - 16 - 16 - 16, by omega⟩))
      = turned u ar ac d := by
  have key : ∀ {n : ℕ} (f : Fin n → EReal) {i j : Fin n}, i.val = j.val → f i = f j := fun f _ _ h => congrArg f (Fin.ext h)
  unfold turned
  by_cases h1 : d.val < 16
  · rw [dif_pos h1, if_pos h1]
    rw [key ar (i := ⟨d.val, h1⟩) (j := ⟨d.val % 16, by omega⟩) (by simp only; omega),
      key u (i := ⟨16 + d.val, by omega⟩) (j := ⟨(d.val + 16) % 64, by omega⟩) (by simp only; omega)]
  rw [dif_neg h1, if_neg h1]
  by_cases h2 : d.val < 32
  · rw [dif_pos (show d.val - 16 < 16 by omega), if_pos h2]
    rw [key ar (i := ⟨d.val - 16, by omega⟩) (j := ⟨d.val % 16, by omega⟩) (by simp only; omega),
      key u (i := ⟨16 + (d.val - 16), by omega⟩) (j := d) (by simp only; omega),
      key u (i := ⟨d.val - 16, by omega⟩) (j := ⟨(d.val + 48) % 64, by omega⟩) (by simp only; omega)]
  rw [dif_neg (show ¬ d.val - 16 < 16 by omega), if_neg h2]
  by_cases h3 : d.val < 48
  · rw [dif_pos (show d.val - 16 - 16 < 16 by omega), if_pos h3]
    rw [key ac (i := ⟨d.val - 16 - 16, by omega⟩) (j := ⟨d.val % 16, by omega⟩) (by simp only; omega),
      key u (i := ⟨32 + (d.val - 16 - 16), by omega⟩) (j := d) (by simp only; omega),
      key u (i := ⟨48 + (d.val - 16 - 16), by omega⟩) (j := ⟨(d.val + 16) % 64, by omega⟩) (by simp only; omega)]
  · rw [dif_neg (show ¬ d.val - 16 - 16 < 16 by omega), if_neg h3]
    rw [key ac (i := ⟨d.val - 16 - 16 - 16, by omega⟩) (j := ⟨d.val % 16, by omega⟩) (by simp only; omega),
      key u (i := ⟨48 + (d.val - 16 - 16 - 16), by omega⟩) (j := d) (by simp only; omega),
      key u (i := ⟨32 + (d.val - 16 - 16 - 16), by omega⟩) (j := ⟨(d.val + 48) % 64, by omega⟩) (by simp only; omega)]

/-- The kernel's form of a turned lane: the lane times its cosine plus its partner times a sine that carries the sign. -/
theorem turned_eq (u : Fin 64 → EReal) (ar ac : Fin 16 → EReal) (d : Fin 64) :
    u d * (if d.val < 32 then Ideal.cos (ar ⟨d.val % 16, by omega⟩) else Ideal.cos (ac ⟨d.val % 16, by omega⟩))
      + (if d.val % 32 < 16 then u ⟨(d.val + 16) % 64, by omega⟩ else u ⟨(d.val + 48) % 64, by omega⟩)
        * (if d.val < 16 then - Ideal.sin (ar ⟨d.val % 16, by omega⟩) else if d.val < 32 then Ideal.sin (ar ⟨d.val % 16, by omega⟩)
          else if d.val < 48 then - Ideal.sin (ac ⟨d.val % 16, by omega⟩) else Ideal.sin (ac ⟨d.val % 16, by omega⟩))
      = turned u ar ac d := by
  unfold turned
  by_cases h1 : d.val < 16
  · rw [if_pos (by omega), if_pos (by omega), if_pos h1, if_pos h1, mul_neg, ← sub_eq_add_neg]
  by_cases h2 : d.val < 32
  · rw [if_pos h2, if_neg (by omega), if_neg h1, if_pos h2, if_neg h1, if_pos h2]
  by_cases h3 : d.val < 48
  · rw [if_neg h2, if_pos (by omega), if_neg h1, if_neg h2, if_pos h3, if_neg h1, if_neg h2, if_pos h3, mul_neg, ← sub_eq_add_neg]
  · rw [if_neg h2, if_neg (by omega), if_neg h1, if_neg h2, if_neg h3, if_neg h1, if_neg h2, if_neg h3]

end Cert.Proof.Proj

end
-- ==== Proof.ProjKernel.lean ====
/- The projection kernel's stored values, read at one index: norms, heads, turned heads, transposed slabs. -/
module

public import proofs.«01_k».proof.Proof.Gen.ProjIdeal.Value
public import proofs.«01_k».proof.Proof.ProjRow

@[expose] public section

set_option maxRecDepth 16384

noncomputable section

namespace Cert.Proof.Proj

open Cert.ProjIdeal Cert.ProjIdeal.Gen Idealize.ShloMosaic Cert.Proof.Merge

/-- One element of a block's modulated norm. -/
theorem pay4_at (v0 : FVec Ideal S1x1024x1024 .f32) (v7 : FVec Ideal S1x1024 .f32) (v9 v21 : FVec Ideal S1x1x1024 .f32) (s k : Fin 1024) :
    k0_pay4 (F := Ideal) v0 v7 v9 v21 (ix2 s k) = hidden (fun k => v0 (ix3 0 s k)) (fun k => v7 (ix2 0 k)) (fun k => v9 (ix3 0 0 k)) (fun k => v21 (ix3 0 0 k)) k := by
  unfold Merge.hidden
  pointwise [k0_pay4]

/-- One lane of the grouped-query attention's projected queries. -/
theorem pay6_at (v0 : FVec Ideal S1x1024x1024 .f32) (v7 : FVec Ideal S1x1024 .f32) (v9 v21 : FVec Ideal S1x1x1024 .f32) (w : FVec Ideal S1x1024x512 .bf16)
    (s : Fin 1024) (n : Fin 512) :
    k0_pay6 (F := Ideal) v0 v7 v9 v21 w (ix2 s n) = proj (fun k => k0_pay4 (F := Ideal) v0 v7 v9 v21 (ix2 s k)) (fun k => w (ix3 0 k n)) := by
  unfold proj
  pointwise [k0_pay6]

/-- One lane of the neighbourhood attention's projected queries. -/
theorem pay24_at (H : FVec Ideal S1024x1024 .bf16) (w : FVec Ideal S1x1024x512 .bf16) (s : Fin 1024) (n : Fin 512) :
    k0_pay24 (F := Ideal) H w (ix2 s n) = proj (fun k => H (ix2 s k)) (fun k => w (ix3 0 k n)) := by
  unfold proj
  pointwise [k0_pay24]

/-- One lane of the neighbourhood attention's projected keys. -/
theorem pay29_at (H : FVec Ideal S1024x1024 .bf16) (w : FVec Ideal S1x1024x512 .bf16) (s : Fin 1024) (n : Fin 512) :
    k0_pay29 (F := Ideal) H w (ix2 s n) = proj (fun k => H (ix2 s k)) (fun k => w (ix3 0 k n)) := by
  unfold proj
  pointwise [k0_pay29]

/-- One lane of the grouped-query attention's projected values, transposed. -/
theorem pay35_at (H : FVec Ideal S1024x1024 .bf16) (w : FVec Ideal S1x1024x128 .bf16) (n : Fin 128) (s : Fin 1024) :
    k0_pay35 (F := Ideal) H w (ix2 n s) = proj (fun k => H (ix2 s k)) (fun k => w (ix3 0 k n)) := by
  unfold proj
  pointwise [k0_pay35]

/-- One lane of the neighbourhood attention's projected values, transposed. -/
theorem pay41_at (H : FVec Ideal S1024x1024 .bf16) (w : FVec Ideal S1x1024x512 .bf16) (n : Fin 512) (s : Fin 1024) :
    k0_pay41 (F := Ideal) H w (ix2 n s) = proj (fun k => H (ix2 s k)) (fun k => w (ix3 0 k n)) := by
  unfold proj
  pointwise [k0_pay41]

/-- The matrix of heads: 1 where both lanes lie in one head. -/
def Heads (S : FVec Ideal S256x256 .bf16) : Prop := ∀ k q : Fin 256, S (ix2 k q) = if k.val / 64 = q.val / 64 then 1 else 0

/-- The head norm over 512 lanes, as two halves that share one matrix of heads. -/
theorem halves_norm (S : FVec Ideal S256x256 .bf16) (hS : Heads S) (p : Fin 512 → EReal) (g : EReal) (G : Fin 64 → EReal) (n : Fin 512)
    (hg : g = G ⟨n.val % 64, by omega⟩) :
    (if h : n.val < 256 then p n * Ideal.rsqrt ((∑ x : Fin 256, p ⟨x.val, by omega⟩ * p ⟨x.val, by omega⟩ * S (ix2 x ⟨n.val, h⟩))
          * Ideal.ofBits .f32 0x3C800000#32 + Ideal.ofBits .f32 0x358637BD#32)
      else p ⟨256 + (n.val - 256), by omega⟩ * Ideal.rsqrt ((∑ x : Fin 256, p ⟨256 + x.val, by omega⟩ * p ⟨256 + x.val, by omega⟩
          * S (ix2 x ⟨n.val - 256, by omega⟩)) * Ideal.ofBits .f32 0x3C800000#32 + Ideal.ofBits .f32 0x358637BD#32)) * g
      = normed (fun e => p ⟨n.val / 64 * 64 + e.val, by omega⟩) G ⟨n.val % 64, by omega⟩ := by
  by_cases h : n.val < 256
  · rw [dif_pos h]
    exact head_norm rfl (fun k : Fin 256 => p ⟨k.val, by omega⟩) (fun k => S (ix2 k ⟨n.val, h⟩)) g G ⟨n.val, h⟩ (fun k => hS _ _) hg
  · rw [dif_neg h]
    have ed : (⟨n.val % 64, by omega⟩ : Fin 64) = ⟨(n.val - 256) % 64, by omega⟩ := Fin.ext (by simp only; omega)
    refine (head_norm rfl (fun k : Fin 256 => p ⟨256 + k.val, by omega⟩) (fun k => S (ix2 k ⟨n.val - 256, by omega⟩)) g G ⟨n.val - 256, by omega⟩
      (fun k => hS _ _) (hg.trans (congrArg G ed))).trans ?_
    rw [ed]
    exact congrArg (fun u => normed u G _) (funext fun e => congrArg p (Fin.ext (by simp only; omega)))

section norms
variable (S : FVec Ideal S256x256 .bf16) (hS : Heads S) (G : Fin 64 → EReal) (s : Fin 1024)
include hS

/-- One lane of the grouped-query attention's normed queries. -/
theorem pay9_at (g : FVec Ideal S1x512 .f32) (hg : ∀ n : Fin 512, g (ix2 0 n) = G ⟨n.val % 64, by omega⟩) (p : FVec Ideal S1024x512 .f32)
    (sq : FVec Ideal S1024x512 .bf16) (hsq : ∀ s n, sq (ix2 s n) = p (ix2 s n) * p (ix2 s n)) (n : Fin 512) : k0_pay9 (F := Ideal) S p g sq (ix2 s n)
      = normed (fun e => p (ix2 s ⟨n.val / 64 * 64 + e.val, by omega⟩)) G ⟨n.val % 64, by omega⟩ := by
  pointwise [k0_pay9]
  simp only [hsq]
  exact halves_norm S hS (fun n => p (ix2 s n)) _ G n (hg n)

/-- One lane of the neighbourhood attention's normed queries. -/
theorem pay28_at (g : FVec Ideal S1x512 .f32) (hg : ∀ n : Fin 512, g (ix2 0 n) = G ⟨n.val % 64, by omega⟩) (H : FVec Ideal S1024x1024 .bf16)
    (w : FVec Ideal S1x1024x512 .bf16) (n : Fin 512) :
    k0_pay28 (F := Ideal) S (k0_pay24 H w) g (k0_pay26 H w) (k0_pay27 H S w) (ix3 0 s n)
      = normed (fun e => k0_pay24 (F := Ideal) H w (ix2 s ⟨n.val / 64 * 64 + e.val, by omega⟩)) G ⟨n.val % 64, by omega⟩ := by
  unfold k0_pay27 k0_pay26
  generalize k0_pay24 (F := Ideal) H w = p
  pointwise [k0_pay28]
  exact halves_norm S hS (fun n => p (ix2 s n)) _ G n (hg n)

/-- One lane of the neighbourhood attention's normed keys. -/
theorem pay34_at (g : FVec Ideal S1x512 .f32) (hg : ∀ n : Fin 512, g (ix2 0 n) = G ⟨n.val % 64, by omega⟩) (H : FVec Ideal S1024x1024 .bf16)
    (w : FVec Ideal S1x1024x512 .bf16) (n : Fin 512) :
    k0_pay34 (F := Ideal) (k0_pay29 H w) g (k0_pay32 H S w) (k0_pay33 H S w) (ix3 0 s n)
      = normed (fun e => k0_pay29 (F := Ideal) H w (ix2 s ⟨n.val / 64 * 64 + e.val, by omega⟩)) G ⟨n.val % 64, by omega⟩ := by
  unfold k0_pay32 k0_pay33 k0_pay31
  generalize k0_pay29 (F := Ideal) H w = p
  pointwise [k0_pay34]
  exact halves_norm S hS (fun n => p (ix2 s n)) _ G n (hg n)

/-- One lane of the grouped-query attention's normed keys. -/
theorem pay18_at (g : FVec Ideal S1x128 .f32) (hg : ∀ n : Fin 128, g (ix2 0 n) = G ⟨n.val % 64, by omega⟩) (H : FVec Ideal S1024x1024 .bf16)
    (w : FVec Ideal S1x1024x128 .bf16) (n : Fin 128) :
    k0_pay18 (F := Ideal) H S w g (ix2 s n)
      = normed (fun e => proj (fun k => H (ix2 s k)) (fun k => w (ix3 0 k ⟨n.val / 64 * 64 + e.val, by omega⟩))) G ⟨n.val % 64, by omega⟩ := by
  pointwise [k0_pay18]
  exact head_norm (N := 128) rfl (fun n => proj (fun k => H (ix2 s k)) (fun k => w (ix3 0 k n))) (fun k => S (ix2 ⟨k.val, by omega⟩ ⟨n.val, by omega⟩))
    _ G n (fun k => hS _ _) (hg n)

end norms

/-- Whether a lane is in the first 16 of its 32, as the kernel computes it: `1` where it is. -/
def ahead (x : BitVec 32) : BitVec 1 :=
  IntOp.cmpi .slt (Scalar.select (IntOp.andi (IntOp.xori
      (IntOp.cmpi .slt (IntOp.remsi .vector x (Scalar.select (Scalar.cmpi .eq 32#32 0#32) 1#32 32#32)) 0#32)
      (Scalar.cmpi .slt (Scalar.select (Scalar.cmpi .eq 32#32 0#32) 1#32 32#32) 0#32))
      (IntOp.cmpi .ne (IntOp.remsi .vector x (Scalar.select (Scalar.cmpi .eq 32#32 0#32) 1#32 32#32)) 0#32))
    (IntOp.addi (IntOp.remsi .vector x (Scalar.select (Scalar.cmpi .eq 32#32 0#32) 1#32 32#32)) (Scalar.select (Scalar.cmpi .eq 32#32 0#32) 1#32 32#32))
    (IntOp.remsi .vector x (Scalar.select (Scalar.cmpi .eq 32#32 0#32) 1#32 32#32))) 16#32

/-- A lane takes its partner ahead exactly in the first half of each 32 lanes. -/
theorem ahead_eq : ∀ n : Fin 512, ahead (BitVec.ofNat 32 n.val) = if n.val % 32 < 16 then 1#1 else 0#1 := by decide +kernel

/-- A choice by `ahead` of lane `n`. -/
theorem ahead_select (n : ℕ) (hn : n < 512) (a b : EReal) : Scalar.select (ahead (BitVec.ofNat 32 n)) a b = if n % 32 < 16 then a else b := by
  rw [ahead_eq ⟨n, hn⟩]
  split <;> rfl

/-- Four equal pieces of 128 lanes side by side. -/
theorem four_pieces (f : Fin 128 → EReal) (n : Fin 512) :
    (if h : n.val < 128 then f ⟨n.val, h⟩ else if h : n.val - 128 < 128 then f ⟨n.val - 128, h⟩
      else if h : n.val - 128 - 128 < 128 then f ⟨n.val - 128 - 128, h⟩ else f ⟨n.val - 128 - 128 - 128, by omega⟩)
      = f ⟨n.val % 128, by omega⟩ := by
  split_ifs <;> exact congrArg f (Fin.ext (by simp only; omega))

/-- One lane of the turned queries: the lane times its cosine plus its partner times its signed sine. -/
theorem pay17_at (y : FVec Ideal S1024x512 .f32) (C D : FVec Ideal S1024x128 .f32) (s : Fin 1024) (n : Fin 512) :
    k0_pay17 (F := Ideal) y C D (dynamicRotate 1 496#32 none y) (dynamicRotate 1 16#32 none y) k0_pay14 k0_pay15 k0_pay16 (ix3 0 s n)
      = y (ix2 s n) * C (ix2 s ⟨n.val % 128, by omega⟩)
        + (if n.val % 32 < 16 then y (ix2 s ⟨(n.val + 512 - 496) % 512, by omega⟩) else y (ix2 s ⟨(n.val + 512 - 16) % 512, by omega⟩))
          * D (ix2 s ⟨n.val % 128, by omega⟩) := by
  pointwise [k0_pay17, k0_pay14, k0_pay15, k0_pay16]
  refine congrArg₂ (· + ·) (congrArg₂ (· * ·) rfl (four_pieces (fun l => C (ix2 s l)) n))
    (congrArg₂ (· * ·) (ahead_select n.val n.isLt _ _) (four_pieces (fun l => D (ix2 s l)) n))

/-- One lane of the turned keys, before they are laid out twice. -/
def turnedKey (y C D : FVec Ideal S1024x128 .f32) (s : Fin 1024) (l : Fin 128) : EReal :=
  y (ix2 s l) * C (ix2 s l)
    + (if l.val % 32 < 16 then y (ix2 s ⟨(l.val + 128 - 112) % 128, by omega⟩) else y (ix2 s ⟨(l.val + 128 - 16) % 128, by omega⟩)) * D (ix2 s l)

/-- The lower half of the lanes, and the upper half, laid out twice each. -/
theorem two_heads (z : Fin 128 → EReal) (n : Fin 256) :
    (if h : n.val < 128 then Scalar.select (IntOp.cmpi .slt (BitVec.ofNat 32 n.val) 64#32) (z ⟨n.val, h⟩) (z ⟨(n.val + 128 - 64) % 128, by omega⟩)
      else Scalar.select (IntOp.cmpi .slt (BitVec.ofNat 32 (n.val - 128)) 64#32) (z ⟨(n.val - 128 + 128 - 64) % 128, by omega⟩) (z ⟨n.val - 128, by omega⟩))
      = z ⟨n.val / 128 * 64 + n.val % 64, by omega⟩ := by
  have hc : ∀ l : Fin 128, IntOp.cmpi .slt (BitVec.ofNat 32 l.val) 64#32 = if l.val < 64 then 1#1 else 0#1 := by decide +kernel
  by_cases h : n.val < 128
  · rw [dif_pos h, hc ⟨n.val, h⟩]
    by_cases h' : n.val < 64
    · rw [if_pos h']; exact congrArg z (Fin.ext (by simp only; omega))
    · rw [if_neg h']; exact congrArg z (Fin.ext (by simp only; omega))
  · rw [dif_neg h, hc ⟨n.val - 128, by omega⟩]
    by_cases h' : n.val - 128 < 64
    · rw [if_pos h']; exact congrArg z (Fin.ext (by simp only; omega))
    · rw [if_neg h']; exact congrArg z (Fin.ext (by simp only; omega))

/-- One lane of the stored turned keys, each head twice over. -/
theorem pay23_at (y C D : FVec Ideal S1024x128 .f32) (s : Fin 1024) (n : Fin 256) :
    k0_pay23 (F := Ideal) y C D (iota .tc S1024x128 32 [1] iota_S1024x128_d1_w32) (dynamicRotate 1 112#32 none y) (dynamicRotate 1 16#32 none y)
        32#32 0#32 (ix3 0 s n) = turnedKey y C D s ⟨n.val / 128 * 64 + n.val % 64, by omega⟩ := by
  have hz : ∀ (l : ℕ) (hl : l < 128), y (ix2 s ⟨l, hl⟩) * C (ix2 s ⟨l, hl⟩) + Scalar.select (ahead (BitVec.ofNat 32 l))
      (y (ix2 s ⟨(l + 128 - 112) % 128, by omega⟩)) (y (ix2 s ⟨(l + 128 - 16) % 128, by omega⟩)) * D (ix2 s ⟨l, hl⟩) = turnedKey y C D s ⟨l, hl⟩ := by
    intro l hl
    rw [ahead_select l (by omega)]
    rfl
  unfold ahead at hz
  pointwise [k0_pay23]
  simp only [hz]
  exact two_heads (turnedKey y C D s) n

/-- Eight blocks of 128 columns lie in 1024 columns. -/
theorem slice128 (j : ℕ) (h : j < 8) : S512x1024.Slices ![0, 128 * j] S512x128 := by
  refine ⟨rfl, fun a => ?_⟩
  fin_cases a <;> simp [S512x1024, S512x128] <;> omega

/-- Four blocks of 256 columns lie in 1024 columns. -/
theorem slice256 (j : ℕ) (h : j < 4) : S128x1024.Slices ![0, 256 * j] S128x256 := by
  refine ⟨rfl, fun a => ?_⟩
  fin_cases a <;> simp [S128x1024, S128x256] <;> omega

/-- Slab `j` of 128 tokens of the neighbourhood attention's transposed values. -/
def slabA (x : FVec Ideal S512x1024 .bf16) (j : ℕ) (h : j < 8) : FVec Ideal S1x1x512x128 .bf16 :=
  shapeCast S1x1x512x128 (extractStridedSlice S512x128 ![0, 128 * j] x (slice128 j h)) shapeCasts_S512x128_S1x1x512x128

/-- Slab `j` of 256 tokens of the grouped-query attention's transposed values. -/
def slabB (x : FVec Ideal S128x1024 .bf16) (j : ℕ) (h : j < 4) : FVec Ideal S1x1x128x256 .bf16 :=
  shapeCast S1x1x128x256 (extractStridedSlice S128x256 ![0, 256 * j] x (slice256 j h)) shapeCasts_S128x256_S1x1x128x256

/-- One element of slab `j` of 128 tokens. -/
theorem slabA_at (x : FVec Ideal S512x1024 .bf16) (j : ℕ) (h : j < 8) (n : Fin 512) (s : Fin 128) :
    slabA x j h (ix4 0 0 n s) = x (ix2 n ⟨128 * j + s.val, by omega⟩) := by
  pointwise [slabA]

/-- One element of slab `j` of 256 tokens. -/
theorem slabB_at (x : FVec Ideal S128x1024 .bf16) (j : ℕ) (h : j < 4) (n : Fin 128) (s : Fin 256) :
    slabB x j h (ix4 0 0 n s) = x (ix2 n ⟨256 * j + s.val, by omega⟩) := by
  pointwise [slabB]

end Cert.Proof.Proj

end
-- ==== Proof.ProjStep.lean ====
/- The values that one grid point of the projection kernel loads and stores. -/
module

public import proofs.«01_k».proof.Proof.ProjKernel

@[expose] public section

set_option maxRecDepth 65536

noncomputable section

namespace Cert.Proof.Proj

open Cert.ProjIdeal Cert.ProjIdeal.Gen Idealize.ShloMosaic Idealize.ShloMosaic.TcCoe Idealize.SL.Sem Cert.Proof.Merge

section loads
variable (c : Dev nD) (i : grid0.Coords)
  (arg2 : Memref sig .tc .vmem S1x1024x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1x1024 .f32) (harg5 : arg5.IsWhole)
  (arg6 : Memref sig .tc .vmem S1x1024x2304 .bf16) (harg6 : arg6.IsWhole) (arg7 : Memref sig .tc .vmem S256x256 .bf16) (harg7 : arg7.IsWhole)
  (arg8 : Memref sig .tc .vmem S4x512 .f32) (harg8 : arg8.IsWhole) (arg9 : Memref sig .tc .vmem S1024x128 .f32) (harg9 : arg9.IsWhole)
  (arg10 : Memref sig .tc .vmem S1024x128 .f32) (harg10 : arg10.IsWhole) (arg11 : Memref sig .tc .vmem S1x1024x512 .bf16) (harg11 : arg11.IsWhole)
  (arg12 : Memref sig .tc .vmem S1x8x512x128 .bf16) (harg12 : arg12.IsWhole) (arg13 : Memref sig .tc .vmem S1x1024x256 .bf16) (harg13 : arg13.IsWhole)
  (arg14 : Memref sig .tc .vmem S1x4x128x256 .bf16) (harg14 : arg14.IsWhole) (arg15 : Memref sig .tc .vmem S1x1024x512 .bf16) (harg15 : arg15.IsWhole)
  (arg16 : Memref sig .tc .vmem S1x1024x512 .bf16) (harg16 : arg16.IsWhole)
  (x0 : FVec Ideal S1x1024x1024 .f32) (x1 : FVec Ideal S1x1x1024 .f32) (x2 : FVec Ideal S1x1x1024 .f32) (x3 : FVec Ideal S1x1024 .f32) (x4 : FVec Ideal S1x1024x2304 .bf16) (x5 : FVec Ideal S256x256 .bf16) (x6 : FVec Ideal S4x512 .f32) (x7 : FVec Ideal S1024x128 .f32) (x8 : FVec Ideal S1024x128 .f32)

/-- The block of tokens. -/
def loadX : FVec Ideal S1x1024x1024 .f32 :=
  View.readAt (Elt Ideal) arg2.view (Rect.unit (s := S1x1024x1024) ![0, 0, 0] S1x1024x1024.size inb_S1x1024x1024_S1x1024x1024_0_0_0).toLoadRect (harg2.unread x0)

/-- One element of it. -/
theorem loadX_at (s k : Fin 1024) : loadX arg2 harg2 x0 (ix3 0 s k) = x0 (ix3 0 s k) := by
  unfold loadX
  rw [View.readAt_eq_ld, harg2.read_unread]
  pointwise

/-- The shift of the block's batch. -/
def loadSh : FVec Ideal S1x1x1024 .f32 :=
  View.readAt (Elt Ideal) arg3.view (Rect.unit (s := S1x1x1024) ![0, 0, 0] S1x1x1024.size inb_S1x1x1024_S1x1x1024_0_0_0).toLoadRect (harg3.unread x1)

/-- One element of it. -/
theorem loadSh_at (k : Fin 1024) : loadSh arg3 harg3 x1 (ix3 0 0 k) = x1 (ix3 0 0 k) := by
  unfold loadSh
  rw [View.readAt_eq_ld, harg3.read_unread]
  pointwise

/-- The scale of the block's batch. -/
def loadSc : FVec Ideal S1x1x1024 .f32 :=
  View.readAt (Elt Ideal) arg4.view (Rect.unit (s := S1x1x1024) ![0, 0, 0] S1x1x1024.size inb_S1x1x1024_S1x1x1024_0_0_0).toLoadRect (harg4.unread x2)

/-- One element of it. -/
theorem loadSc_at (k : Fin 1024) : loadSc arg4 harg4 x2 (ix3 0 0 k) = x2 (ix3 0 0 k) := by
  unfold loadSc
  rw [View.readAt_eq_ld, harg4.read_unread]
  pointwise

/-- The gain of the norm. -/
def loadG : FVec Ideal S1x1024 .f32 :=
  View.readAt (Elt Ideal) arg5.view (Rect.unit (s := S1x1024) ![0, 0] S1x1024.size inb_S1x1024_S1x1024_0_0).toLoadRect (harg5.unread x3)

/-- One element of it. -/
theorem loadG_at (k : Fin 1024) : loadG arg5 harg5 x3 (ix2 0 k) = x3 (ix2 0 k) := by
  unfold loadG
  rw [View.readAt_eq_ld, harg5.read_unread]
  pointwise

/-- The matrix of heads. -/
def loadS : FVec Ideal S256x256 .bf16 :=
  View.readAt (Elt Ideal) arg7.view (Rect.unit (s := S256x256) ![0, 0] S256x256.size inb_S256x256_S256x256_0_0).toLoadRect (harg7.unread x5)

/-- One element of it. -/
theorem loadS_at (k q : Fin 256) : loadS arg7 harg7 x5 (ix2 k q) = x5 (ix2 k q) := by
  unfold loadS
  rw [View.readAt_eq_ld, harg7.read_unread]
  pointwise

/-- The cosines of the block's tokens. -/
def loadC : FVec Ideal S1024x128 .f32 :=
  View.readAt (Elt Ideal) arg9.view (Rect.unit (s := S1024x128) ![0, 0] S1024x128.size inb_S1024x128_S1024x128_0_0).toLoadRect (harg9.unread x7)

/-- One element of it. -/
theorem loadC_at (s : Fin 1024) (l : Fin 128) : loadC arg9 harg9 x7 (ix2 s l) = x7 (ix2 s l) := by
  unfold loadC
  rw [View.readAt_eq_ld, harg9.read_unread]
  pointwise

/-- The signed sines of the block's tokens. -/
def loadD : FVec Ideal S1024x128 .f32 :=
  View.readAt (Elt Ideal) arg10.view (Rect.unit (s := S1024x128) ![0, 0] S1024x128.size inb_S1024x128_S1024x128_0_0).toLoadRect (harg10.unread x8)

/-- One element of it. -/
theorem loadD_at (s : Fin 1024) (l : Fin 128) : loadD arg10 harg10 x8 (ix2 s l) = x8 (ix2 s l) := by
  unfold loadD
  rw [View.readAt_eq_ld, harg10.read_unread]
  pointwise

/-- 512 columns of the weights, from column `o`. -/
def loadW (o : ℕ) (h : o + 512 ≤ 2304) : FVec Ideal S1x1024x512 .bf16 :=
  View.readAt (Elt Ideal) arg6.view (Rect.unit (s := S1x1024x2304) ![0, 0, o] S1x1024x512.size (by intro a; fin_cases a <;> simp [S1x1024x2304, S1x1024x512] <;> omega)).toLoadRect (harg6.unread x4)

/-- One element of it. -/
theorem loadW_at (o : ℕ) (h : o + 512 ≤ 2304) (k : Fin 1024) (n : Fin 512) : loadW arg6 harg6 x4 o h (ix3 0 k n) = x4 (ix3 0 k ⟨o + n.val, by omega⟩) := by
  unfold loadW
  rw [View.readAt_eq_ld, harg6.read_unread]
  pointwise

/-- 128 columns of the weights, from column `o`. -/
def loadN (o : ℕ) (h : o + 128 ≤ 2304) : FVec Ideal S1x1024x128 .bf16 :=
  View.readAt (Elt Ideal) arg6.view (Rect.unit (s := S1x1024x2304) ![0, 0, o] S1x1024x128.size (by intro a; fin_cases a <;> simp [S1x1024x2304, S1x1024x128] <;> omega)).toLoadRect (harg6.unread x4)

/-- One element of it. -/
theorem loadN_at (o : ℕ) (h : o + 128 ≤ 2304) (k : Fin 1024) (n : Fin 128) : loadN arg6 harg6 x4 o h (ix3 0 k n) = x4 (ix3 0 k ⟨o + n.val, by omega⟩) := by
  unfold loadN
  rw [View.readAt_eq_ld, harg6.read_unread]
  pointwise

/-- Row `r` of the gains. -/
def loadR (r : ℕ) (h : r < 4) : FVec Ideal S1x512 .f32 :=
  View.readAt (Elt Ideal) arg8.view (Rect.unit (s := S4x512) ![r, 0] S1x512.size (by intro a; fin_cases a <;> simp [S4x512, S1x512] <;> omega)).toLoadRect (harg8.unread x6)

/-- One element of it. -/
theorem loadR_at (r : ℕ) (h : r < 4) (n : Fin 512) : loadR arg8 harg8 x6 r h (ix2 0 n) = x6 (ix2 ⟨r, h⟩ n) := by
  unfold loadR
  rw [View.readAt_eq_ld, harg8.read_unread]
  pointwise

/-- The first 128 lanes of row 1 of the gains. -/
def loadR1 : FVec Ideal S1x128 .f32 :=
  View.readAt (Elt Ideal) arg8.view (Rect.unit (s := S4x512) ![1, 0] S1x128.size inb_S4x512_S1x128_1_0).toLoadRect (harg8.unread x6)

/-- One element of it. -/
theorem loadR1_at (n : Fin 128) : loadR1 arg8 harg8 x6 (ix2 0 n) = x6 (ix2 1 ⟨n.val, by omega⟩) := by
  unfold loadR1
  rw [View.readAt_eq_ld, harg8.read_unread]
  pointwise

/-- The block's modulated norm. -/
def hid : FVec Ideal S1024x1024 .bf16 :=
  k0_pay4 (F := Ideal) (loadX arg2 harg2 x0) (loadG arg5 harg5 x3) (loadSc arg4 harg4 x2) (loadSh arg3 harg3 x1)

/-- What the point stores of the neighbourhood attention's keys. -/
def storedKa : FVec Ideal S1x1024x512 .bf16 :=
  k0_pay34 (F := Ideal) (k0_pay29 (hid arg2 harg2 arg3 harg3 arg4 harg4 arg5 harg5 x0 x1 x2 x3) (loadW arg6 harg6 x4 0 (by omega))) (k0_pay30 (loadR arg8 harg8 x6 0 (by omega)))
    (k0_pay32 (hid arg2 harg2 arg3 harg3 arg4 harg4 arg5 harg5 x0 x1 x2 x3) (k0_pay5 (F := Ideal) (loadS arg7 harg7 x5)) (loadW arg6 harg6 x4 0 (by omega)))
    (k0_pay33 (hid arg2 harg2 arg3 harg3 arg4 harg4 arg5 harg5 x0 x1 x2 x3) (k0_pay5 (F := Ideal) (loadS arg7 harg7 x5)) (loadW arg6 harg6 x4 0 (by omega)))

set_option maxHeartbeats 1000000 in
theorem pieces9 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1
      = [⟨Rect.unit ![0, 0, 0] S1x1024x512.size inb_S1x1024x512_S1x1024x512_0_0_0, storedKa arg2 harg2 arg3 harg3 arg4 harg4 arg5 harg5 arg6 harg6 arg7 harg7 arg8 harg8 x0 x1 x2 x3 x4 x5 x6⟩] := by
  sl_kernel_rfl

/-- The block left in output 9's buffer. -/
theorem out9_at (r : Fin 1024) (l : Fin 512) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) r l) = storedKa arg2 harg2 arg3 harg3 arg4 harg4 arg5 harg5 arg6 harg6 arg7 harg7 arg8 harg8 x0 x1 x2 x3 x4 x5 x6 (ix3 0 r l) := by
  unfold out0_A_9
  rw [pieces9, View.read_writes_junk_eq_canon]
  generalize storedKa arg2 harg2 arg3 harg3 arg4 harg4 arg5 harg5 arg6 harg6 arg7 harg7 arg8 harg8 x0 x1 x2 x3 x4 x5 x6 = B
  canon_tiles x e
  all_goals
    change r.val = _ at e1
    change l.val = _ at e2
    exact congrArg B (by blk_ext [e1, e2])

/-- What the point stores of the grouped-query attention's keys. -/
def storedKb : FVec Ideal S1x1024x256 .bf16 :=
  k0_pay23 (F := Ideal) (k0_pay18 (F := Ideal) (hid arg2 harg2 arg3 harg3 arg4 harg4 arg5 harg5 x0 x1 x2 x3) (k0_pay5 (F := Ideal) (loadS arg7 harg7 x5)) (loadN arg6 harg6 x4 1024 (by omega)) (loadR1 arg8 harg8 x6))
    (k0_pay19 (loadC arg9 harg9 x7)) (k0_pay20 (loadD arg10 harg10 x8)) (iota .tc S1024x128 32 [1] iota_S1024x128_d1_w32)
    (dynamicRotate 1 112#32 none (k0_pay18 (F := Ideal) (hid arg2 harg2 arg3 harg3 arg4 harg4 arg5 harg5 x0 x1 x2 x3) (k0_pay5 (F := Ideal) (loadS arg7 harg7 x5)) (loadN arg6 harg6 x4 1024 (by omega)) (loadR1 arg8 harg8 x6)))
    (dynamicRotate 1 16#32 none (k0_pay18 (F := Ideal) (hid arg2 harg2 arg3 harg3 arg4 harg4 arg5 harg5 x0 x1 x2 x3) (k0_pay5 (F := Ideal) (loadS arg7 harg7 x5)) (loadN arg6 harg6 x4 1024 (by omega)) (loadR1 arg8 harg8 x6)))
    32#32 0#32

set_option maxHeartbeats 1000000 in
theorem pieces11 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.1
      = [⟨Rect.unit ![0, 0, 0] S1x1024x256.size inb_S1x1024x256_S1x1024x256_0_0_0, storedKb arg2 harg2 arg3 harg3 arg4 harg4 arg5 harg5 arg6 harg6 arg7 harg7 arg8 harg8 arg9 harg9 arg10 harg10 x0 x1 x2 x3 x4 x5 x6 x7 x8⟩] := by
  sl_kernel_rfl

/-- The block left in output 11's buffer. -/
theorem out11_at (r : Fin 1024) (l : Fin 256) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) r l) = storedKb arg2 harg2 arg3 harg3 arg4 harg4 arg5 harg5 arg6 harg6 arg7 harg7 arg8 harg8 arg9 harg9 arg10 harg10 x0 x1 x2 x3 x4 x5 x6 x7 x8 (ix3 0 r l) := by
  unfold out0_A_11
  rw [pieces11, View.read_writes_junk_eq_canon]
  generalize storedKb arg2 harg2 arg3 harg3 arg4 harg4 arg5 harg5 arg6 harg6 arg7 harg7 arg8 harg8 arg9 harg9 arg10 harg10 x0 x1 x2 x3 x4 x5 x6 x7 x8 = B
  canon_tiles x e
  all_goals
    change r.val = _ at e1
    change l.val = _ at e2
    exact congrArg B (by blk_ext [e1, e2])

/-- What the point stores of the neighbourhood attention's queries. -/
def storedQa : FVec Ideal S1x1024x512 .bf16 :=
  k0_pay28 (F := Ideal) (k0_pay5 (F := Ideal) (loadS arg7 harg7 x5)) (k0_pay24 (hid arg2 harg2 arg3 harg3 arg4 harg4 arg5 harg5 x0 x1 x2 x3) (loadW arg6 harg6 x4 1280 (by omega))) (k0_pay25 (loadR arg8 harg8 x6 2 (by omega)))
    (k0_pay26 (hid arg2 harg2 arg3 harg3 arg4 harg4 arg5 harg5 x0 x1 x2 x3) (loadW arg6 harg6 x4 1280 (by omega)))
    (k0_pay27 (hid arg2 harg2 arg3 harg3 arg4 harg4 arg5 harg5 x0 x1 x2 x3) (k0_pay5 (F := Ideal) (loadS arg7 harg7 x5)) (loadW arg6 harg6 x4 1280 (by omega)))

set_option maxHeartbeats 1000000 in
theorem pieces13 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.2.2.1
      = [⟨Rect.unit ![0, 0, 0] S1x1024x512.size inb_S1x1024x512_S1x1024x512_0_0_0, storedQa arg2 harg2 arg3 harg3 arg4 harg4 arg5 harg5 arg6 harg6 arg7 harg7 arg8 harg8 x0 x1 x2 x3 x4 x5 x6⟩] := by
  sl_kernel_rfl

/-- The block left in output 13's buffer. -/
theorem out13_at (r : Fin 1024) (l : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) r l) = storedQa arg2 harg2 arg3 harg3 arg4 harg4 arg5 harg5 arg6 harg6 arg7 harg7 arg8 harg8 x0 x1 x2 x3 x4 x5 x6 (ix3 0 r l) := by
  unfold out0_A_13
  rw [pieces13, View.read_writes_junk_eq_canon]
  generalize storedQa arg2 harg2 arg3 harg3 arg4 harg4 arg5 harg5 arg6 harg6 arg7 harg7 arg8 harg8 x0 x1 x2 x3 x4 x5 x6 = B
  canon_tiles x e
  all_goals
    change r.val = _ at e1
    change l.val = _ at e2
    exact congrArg B (by blk_ext [e1, e2])

/-- What the point stores of the grouped-query attention's queries. -/
def storedQb : FVec Ideal S1x1024x512 .bf16 :=
  k0_pay17 (F := Ideal) (k0_pay9 (F := Ideal) (k0_pay5 (F := Ideal) (loadS arg7 harg7 x5)) (k0_pay6 (loadX arg2 harg2 x0) (loadG arg5 harg5 x3) (loadSc arg4 harg4 x2) (loadSh arg3 harg3 x1) (loadW arg6 harg6 x4 1792 (by omega))) (k0_pay7 (loadR arg8 harg8 x6 3 (by omega))) (k0_pay8 (loadX arg2 harg2 x0) (loadG arg5 harg5 x3) (loadSc arg4 harg4 x2) (loadSh arg3 harg3 x1) (loadW arg6 harg6 x4 1792 (by omega))))
    (k0_pay10 (loadC arg9 harg9 x7)) (k0_pay11 (loadD arg10 harg10 x8))
    (dynamicRotate 1 496#32 none (k0_pay9 (F := Ideal) (k0_pay5 (F := Ideal) (loadS arg7 harg7 x5)) (k0_pay6 (loadX arg2 harg2 x0) (loadG arg5 harg5 x3) (loadSc arg4 harg4 x2) (loadSh arg3 harg3 x1) (loadW arg6 harg6 x4 1792 (by omega))) (k0_pay7 (loadR arg8 harg8 x6 3 (by omega))) (k0_pay8 (loadX arg2 harg2 x0) (loadG arg5 harg5 x3) (loadSc arg4 harg4 x2) (loadSh arg3 harg3 x1) (loadW arg6 harg6 x4 1792 (by omega)))))
    (dynamicRotate 1 16#32 none (k0_pay9 (F := Ideal) (k0_pay5 (F := Ideal) (loadS arg7 harg7 x5)) (k0_pay6 (loadX arg2 harg2 x0) (loadG arg5 harg5 x3) (loadSc arg4 harg4 x2) (loadSh arg3 harg3 x1) (loadW arg6 harg6 x4 1792 (by omega))) (k0_pay7 (loadR arg8 harg8 x6 3 (by omega))) (k0_pay8 (loadX arg2 harg2 x0) (loadG arg5 harg5 x3) (loadSc arg4 harg4 x2) (loadSh arg3 harg3 x1) (loadW arg6 harg6 x4 1792 (by omega)))))
    k0_pay14 k0_pay15 k0_pay16

set_option maxHeartbeats 1000000 in
theorem pieces14 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.2.2.2.1
      = [⟨Rect.unit ![0, 0, 0] S1x1024x512.size inb_S1x1024x512_S1x1024x512_0_0_0, storedQb arg2 harg2 arg3 harg3 arg4 harg4 arg5 harg5 arg6 harg6 arg7 harg7 arg8 harg8 arg9 harg9 arg10 harg10 x0 x1 x2 x3 x4 x5 x6 x7 x8⟩] := by
  sl_kernel_rfl

/-- The block left in output 14's buffer. -/
theorem out14_at (r : Fin 1024) (l : Fin 512) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) r l) = storedQb arg2 harg2 arg3 harg3 arg4 harg4 arg5 harg5 arg6 harg6 arg7 harg7 arg8 harg8 arg9 harg9 arg10 harg10 x0 x1 x2 x3 x4 x5 x6 x7 x8 (ix3 0 r l) := by
  unfold out0_A_14
  rw [pieces14, View.read_writes_junk_eq_canon]
  generalize storedQb arg2 harg2 arg3 harg3 arg4 harg4 arg5 harg5 arg6 harg6 arg7 harg7 arg8 harg8 arg9 harg9 arg10 harg10 x0 x1 x2 x3 x4 x5 x6 x7 x8 = B
  canon_tiles x e
  all_goals
    change r.val = _ at e1
    change l.val = _ at e2
    exact congrArg B (by blk_ext [e1, e2])

/-- The block of the neighbourhood attention's values, transposed. -/
def valuesA : FVec Ideal S512x1024 .bf16 :=
  k0_pay41 (F := Ideal) (hid arg2 harg2 arg3 harg3 arg4 harg4 arg5 harg5 x0 x1 x2 x3) (loadW arg6 harg6 x4 512 (by omega))

set_option maxHeartbeats 1000000 in
theorem pieces10 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.1
      = [⟨Rect.unit ![0, 7, 0, 0] S1x1x512x128.size inb_S1x8x512x128_S1x1x512x128_0_7_0_0, slabA (valuesA arg2 harg2 arg3 harg3 arg4 harg4 arg5 harg5 arg6 harg6 x0 x1 x2 x3 x4) 7 (by omega)⟩,
         ⟨Rect.unit ![0, 6, 0, 0] S1x1x512x128.size inb_S1x8x512x128_S1x1x512x128_0_6_0_0, slabA (valuesA arg2 harg2 arg3 harg3 arg4 harg4 arg5 harg5 arg6 harg6 x0 x1 x2 x3 x4) 6 (by omega)⟩,
         ⟨Rect.unit ![0, 5, 0, 0] S1x1x512x128.size inb_S1x8x512x128_S1x1x512x128_0_5_0_0, slabA (valuesA arg2 harg2 arg3 harg3 arg4 harg4 arg5 harg5 arg6 harg6 x0 x1 x2 x3 x4) 5 (by omega)⟩,
         ⟨Rect.unit ![0, 4, 0, 0] S1x1x512x128.size inb_S1x8x512x128_S1x1x512x128_0_4_0_0, slabA (valuesA arg2 harg2 arg3 harg3 arg4 harg4 arg5 harg5 arg6 harg6 x0 x1 x2 x3 x4) 4 (by omega)⟩,
         ⟨Rect.unit ![0, 3, 0, 0] S1x1x512x128.size inb_S1x8x512x128_S1x1x512x128_0_3_0_0, slabA (valuesA arg2 harg2 arg3 harg3 arg4 harg4 arg5 harg5 arg6 harg6 x0 x1 x2 x3 x4) 3 (by omega)⟩,
         ⟨Rect.unit ![0, 2, 0, 0] S1x1x512x128.size inb_S1x8x512x128_S1x1x512x128_0_2_0_0, slabA (valuesA arg2 harg2 arg3 harg3 arg4 harg4 arg5 harg5 arg6 harg6 x0 x1 x2 x3 x4) 2 (by omega)⟩,
         ⟨Rect.unit ![0, 1, 0, 0] S1x1x512x128.size inb_S1x8x512x128_S1x1x512x128_0_1_0_0, slabA (valuesA arg2 harg2 arg3 harg3 arg4 harg4 arg5 harg5 arg6 harg6 x0 x1 x2 x3 x4) 1 (by omega)⟩,
         ⟨Rect.unit ![0, 0, 0, 0] S1x1x512x128.size inb_S1x8x512x128_S1x1x512x128_0_0_0_0, slabA (valuesA arg2 harg2 arg3 harg3 arg4 harg4 arg5 harg5 arg6 harg6 x0 x1 x2 x3 x4) 0 (by omega)⟩] := by
  sl_kernel_rfl

/-- Slab `j` left in output 10's buffer. -/
theorem out10_at (j : Fin 8) (n : Fin 512) (s : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix4 (0 : Fin 1) j n s)
      = valuesA arg2 harg2 arg3 harg3 arg4 harg4 arg5 harg5 arg6 harg6 x0 x1 x2 x3 x4 (ix2 n ⟨128 * j.val + s.val, by omega⟩) := by
  have key : ∀ (q : ℕ) (hq : q < 8) (x : S1x1x512x128.Idx), j.val = q → n.val = (x 2).val → s.val = (x 3).val →
      slabA (valuesA arg2 harg2 arg3 harg3 arg4 harg4 arg5 harg5 arg6 harg6 x0 x1 x2 x3 x4) q hq x = valuesA arg2 harg2 arg3 harg3 arg4 harg4 arg5 harg5 arg6 harg6 x0 x1 x2 x3 x4 (ix2 n ⟨128 * j.val + s.val, by omega⟩) := by
    intro q hq x e1 e2 e3
    subst e1
    have hx : x = ix4 0 0 n s := by blk_ext [e2, e3]
    rw [hx, slabA_at]
  unfold out0_A_10
  rw [pieces10, View.read_writes_junk_eq_canon]
  canon_tiles x e
  all_goals
    change j.val = _ at e1
    change n.val = _ at e2
    change s.val = _ at e3
    exact key _ _ x (by omega) (by omega) (by omega)

/-- The block of the grouped-query attention's values, transposed. -/
def valuesB : FVec Ideal S128x1024 .bf16 :=
  k0_pay35 (F := Ideal) (hid arg2 harg2 arg3 harg3 arg4 harg4 arg5 harg5 x0 x1 x2 x3) (loadN arg6 harg6 x4 1152 (by omega))

set_option maxHeartbeats 1000000 in
theorem pieces12 :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.2.2.1
      = [⟨Rect.unit ![0, 3, 0, 0] S1x1x128x256.size inb_S1x4x128x256_S1x1x128x256_0_3_0_0, slabB (valuesB arg2 harg2 arg3 harg3 arg4 harg4 arg5 harg5 arg6 harg6 x0 x1 x2 x3 x4) 3 (by omega)⟩,
         ⟨Rect.unit ![0, 2, 0, 0] S1x1x128x256.size inb_S1x4x128x256_S1x1x128x256_0_2_0_0, slabB (valuesB arg2 harg2 arg3 harg3 arg4 harg4 arg5 harg5 arg6 harg6 x0 x1 x2 x3 x4) 2 (by omega)⟩,
         ⟨Rect.unit ![0, 1, 0, 0] S1x1x128x256.size inb_S1x4x128x256_S1x1x128x256_0_1_0_0, slabB (valuesB arg2 harg2 arg3 harg3 arg4 harg4 arg5 harg5 arg6 harg6 x0 x1 x2 x3 x4) 1 (by omega)⟩,
         ⟨Rect.unit ![0, 0, 0, 0] S1x1x128x256.size inb_S1x4x128x256_S1x1x128x256_0_0_0_0, slabB (valuesB arg2 harg2 arg3 harg3 arg4 harg4 arg5 harg5 arg6 harg6 x0 x1 x2 x3 x4) 0 (by omega)⟩] := by
  sl_kernel_rfl

/-- Slab `j` left in output 12's buffer. -/
theorem out12_at (j : Fin 4) (n : Fin 128) (s : Fin 256) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix4 (0 : Fin 1) j n s)
      = valuesB arg2 harg2 arg3 harg3 arg4 harg4 arg5 harg5 arg6 harg6 x0 x1 x2 x3 x4 (ix2 n ⟨256 * j.val + s.val, by omega⟩) := by
  have key : ∀ (q : ℕ) (hq : q < 4) (x : S1x1x128x256.Idx), j.val = q → n.val = (x 2).val → s.val = (x 3).val →
      slabB (valuesB arg2 harg2 arg3 harg3 arg4 harg4 arg5 harg5 arg6 harg6 x0 x1 x2 x3 x4) q hq x = valuesB arg2 harg2 arg3 harg3 arg4 harg4 arg5 harg5 arg6 harg6 x0 x1 x2 x3 x4 (ix2 n ⟨256 * j.val + s.val, by omega⟩) := by
    intro q hq x e1 e2 e3
    subst e1
    have hx : x = ix4 0 0 n s := by blk_ext [e2, e3]
    rw [hx, slabB_at]
  unfold out0_A_12
  rw [pieces12, View.read_writes_junk_eq_canon]
  canon_tiles x e
  all_goals
    change j.val = _ at e1
    change n.val = _ at e2
    change s.val = _ at e3
    exact key _ _ x (by omega) (by omega) (by omega)

end loads

end Cert.Proof.Proj

end
-- ==== Proof.ProjBlock.lean ====
/- What one grid point of the projection stores, element by element, as a function of its input blocks. -/
module

public import proofs.«01_k».proof.Proof.ProjStep

@[expose] public section

set_option maxRecDepth 65536

noncomputable section

namespace Cert.Proof.Proj

open Cert.ProjIdeal Cert.ProjIdeal.Gen Idealize.ShloMosaic Idealize.ShloMosaic.TcCoe Idealize.SL.Sem Cert.Proof.Merge

/-- Lane `n` of row `s` of the block's projection: the row's modulated norm times column `n` of the weights. -/
def blockLane (x0 : FVec Ideal S1x1024x1024 .f32) (x1 x2 : FVec Ideal S1x1x1024 .f32) (x3 : FVec Ideal S1x1024 .f32) (x4 : FVec Ideal S1x1024x2304 .bf16)
    (s : Fin 1024) (n : Fin 2304) : EReal :=
  proj (Merge.hidden (fun k => x0 (ix3 0 s k)) (fun k => x3 (ix2 0 k)) (fun k => x2 (ix3 0 0 k)) (fun k => x1 (ix3 0 0 k))) fun k => x4 (ix3 0 k n)

/-- A lane, its partner and the two table entries make up the turned lane. -/
theorem turn (u : Fin 64 → EReal) (ar ac : Fin 16 → EReal) (n l : ℕ) (hl : l % 64 = n % 64) (a b1 b2 C D : EReal)
    (ha : a = u ⟨n % 64, by omega⟩) (hb1 : n % 32 < 16 → b1 = u ⟨(n % 64 + 16) % 64, by omega⟩)
    (hb2 : ¬ n % 32 < 16 → b2 = u ⟨(n % 64 + 48) % 64, by omega⟩)
    (hC : C = if l % 64 < 32 then Ideal.cos (ar ⟨l % 16, by omega⟩) else Ideal.cos (ac ⟨l % 16, by omega⟩))
    (hD : D = if l % 64 < 16 then - Ideal.sin (ar ⟨l % 16, by omega⟩) else if l % 64 < 32 then Ideal.sin (ar ⟨l % 16, by omega⟩)
      else if l % 64 < 48 then - Ideal.sin (ac ⟨l % 16, by omega⟩) else Ideal.sin (ac ⟨l % 16, by omega⟩)) :
    a * C + (if n % 32 < 16 then b1 else b2) * D = turned u ar ac ⟨n % 64, by omega⟩ := by
  have e1 : n % 64 % 32 = n % 32 := by omega
  have e2 : n % 64 % 16 = l % 16 := by omega
  rw [← turned_eq, ha, hC, hD]
  simp only [e1, e2, hl]
  by_cases h : n % 32 < 16
  · rw [if_pos h, if_pos h, hb1 h]
  · rw [if_neg h, if_neg h, hb2 h]

section loads
variable (c : Dev nD) (i : grid0.Coords)
  (arg2 : Memref sig .tc .vmem S1x1024x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1x1024 .f32) (harg5 : arg5.IsWhole)
  (arg6 : Memref sig .tc .vmem S1x1024x2304 .bf16) (harg6 : arg6.IsWhole) (arg7 : Memref sig .tc .vmem S256x256 .bf16) (harg7 : arg7.IsWhole)
  (arg8 : Memref sig .tc .vmem S4x512 .f32) (harg8 : arg8.IsWhole) (arg9 : Memref sig .tc .vmem S1024x128 .f32) (harg9 : arg9.IsWhole)
  (arg10 : Memref sig .tc .vmem S1024x128 .f32) (harg10 : arg10.IsWhole) (arg11 : Memref sig .tc .vmem S1x1024x512 .bf16) (harg11 : arg11.IsWhole)
  (arg12 : Memref sig .tc .vmem S1x8x512x128 .bf16) (harg12 : arg12.IsWhole) (arg13 : Memref sig .tc .vmem S1x1024x256 .bf16) (harg13 : arg13.IsWhole)
  (arg14 : Memref sig .tc .vmem S1x4x128x256 .bf16) (harg14 : arg14.IsWhole) (arg15 : Memref sig .tc .vmem S1x1024x512 .bf16) (harg15 : arg15.IsWhole)
  (arg16 : Memref sig .tc .vmem S1x1024x512 .bf16) (harg16 : arg16.IsWhole)
  (x0 : FVec Ideal S1x1024x1024 .f32) (x1 : FVec Ideal S1x1x1024 .f32) (x2 : FVec Ideal S1x1x1024 .f32) (x3 : FVec Ideal S1x1024 .f32) (x4 : FVec Ideal S1x1024x2304 .bf16) (x5 : FVec Ideal S256x256 .bf16) (x6 : FVec Ideal S4x512 .f32) (x7 : FVec Ideal S1024x128 .f32) (x8 : FVec Ideal S1024x128 .f32)

/-- The block's modulated norm, one element. -/
theorem hid_at (s k : Fin 1024) : hid arg2 harg2 arg3 harg3 arg4 harg4 arg5 harg5 x0 x1 x2 x3 (ix2 s k)
    = Merge.hidden (fun k => x0 (ix3 0 s k)) (fun k => x3 (ix2 0 k)) (fun k => x2 (ix3 0 0 k)) (fun k => x1 (ix3 0 0 k)) k := by
  unfold hid
  rw [pay4_at]
  simp only [loadX_at, loadG_at, loadSc_at, loadSh_at]

/-- The loaded matrix of heads is one. -/
theorem heads_load (hS : Heads x5) : Heads (k0_pay5 (F := Ideal) (loadS arg7 harg7 x5)) := by
  intro k q
  pointwise [k0_pay5]
  rw [loadS_at]
  exact hS k q

variable (G : Fin 64 → EReal) (ar ac : Fin 16 → EReal) (s : Fin 1024)

/-- The stored keys of the neighbourhood attention. -/
theorem storedKa_at (hS : Heads x5) (hG : ∀ n : Fin 512, x6 (ix2 0 n) = G ⟨n.val % 64, by omega⟩) (n : Fin 512) :
    storedKa arg2 harg2 arg3 harg3 arg4 harg4 arg5 harg5 arg6 harg6 arg7 harg7 arg8 harg8 x0 x1 x2 x3 x4 x5 x6 (ix3 0 s n)
      = normed (fun e => blockLane x0 x1 x2 x3 x4 s ⟨n.val / 64 * 64 + e.val, by omega⟩) G ⟨n.val % 64, by omega⟩ := by
  unfold storedKa
  rw [pay34_at _ (heads_load _ _ _ hS) G s _ (by intro n; pointwise [k0_pay30]; rw [loadR_at]; exact hG n)]
  simp only [pay29_at, hid_at, loadW_at, Nat.zero_add]
  rfl

/-- The stored queries of the neighbourhood attention. -/
theorem storedQa_at (hS : Heads x5) (hG : ∀ n : Fin 512, x6 (ix2 2 n) = G ⟨n.val % 64, by omega⟩) (n : Fin 512) :
    storedQa arg2 harg2 arg3 harg3 arg4 harg4 arg5 harg5 arg6 harg6 arg7 harg7 arg8 harg8 x0 x1 x2 x3 x4 x5 x6 (ix3 0 s n)
      = normed (fun e => blockLane x0 x1 x2 x3 x4 s ⟨1280 + (n.val / 64 * 64 + e.val), by omega⟩) G ⟨n.val % 64, by omega⟩ := by
  unfold storedQa
  rw [pay28_at _ (heads_load _ _ _ hS) G s _ (by intro n; pointwise [k0_pay25]; rw [loadR_at]; exact hG n)]
  simp only [pay24_at, hid_at, loadW_at]
  rfl

/-- The stored queries of the grouped-query attention. -/
theorem storedQb_at (hS : Heads x5) (hG : ∀ n : Fin 512, x6 (ix2 3 n) = G ⟨n.val % 64, by omega⟩)
    (hC : ∀ l : Fin 128, x7 (ix2 s l) = if l.val % 64 < 32 then Ideal.cos (ar ⟨l.val % 16, by omega⟩) else Ideal.cos (ac ⟨l.val % 16, by omega⟩))
    (hD : ∀ l : Fin 128, x8 (ix2 s l) = if l.val % 64 < 16 then - Ideal.sin (ar ⟨l.val % 16, by omega⟩) else if l.val % 64 < 32 then Ideal.sin (ar ⟨l.val % 16, by omega⟩)
      else if l.val % 64 < 48 then - Ideal.sin (ac ⟨l.val % 16, by omega⟩) else Ideal.sin (ac ⟨l.val % 16, by omega⟩)) (n : Fin 512) :
    storedQb arg2 harg2 arg3 harg3 arg4 harg4 arg5 harg5 arg6 harg6 arg7 harg7 arg8 harg8 arg9 harg9 arg10 harg10 x0 x1 x2 x3 x4 x5 x6 x7 x8 (ix3 0 s n)
      = turned (normed (fun e => blockLane x0 x1 x2 x3 x4 s ⟨1792 + (n.val / 64 * 64 + e.val), by omega⟩) G) ar ac ⟨n.val % 64, by omega⟩ := by
  unfold storedQb
  have hp : ∀ n : Fin 512, k0_pay6 (F := Ideal) (loadX arg2 harg2 x0) (loadG arg5 harg5 x3) (loadSc arg4 harg4 x2) (loadSh arg3 harg3 x1) (loadW arg6 harg6 x4 1792 (by omega)) (ix2 s n)
      = blockLane x0 x1 x2 x3 x4 s ⟨1792 + n.val, by omega⟩ := by
    intro n
    rw [pay6_at]
    simp only [pay4_at, loadX_at, loadG_at, loadSc_at, loadSh_at, loadW_at]
    rfl
  have hy := fun n : Fin 512 => pay9_at (k0_pay5 (F := Ideal) (loadS arg7 harg7 x5)) (heads_load _ _ _ hS) G s (k0_pay7 (loadR arg8 harg8 x6 3 (by omega)))
    (by intro n; pointwise [k0_pay7]; rw [loadR_at]; exact hG n)
    (k0_pay6 (F := Ideal) (loadX arg2 harg2 x0) (loadG arg5 harg5 x3) (loadSc arg4 harg4 x2) (loadSh arg3 harg3 x1) (loadW arg6 harg6 x4 1792 (by omega)))
    (k0_pay8 (F := Ideal) (loadX arg2 harg2 x0) (loadG arg5 harg5 x3) (loadSc arg4 harg4 x2) (loadSh arg3 harg3 x1) (loadW arg6 harg6 x4 1792 (by omega)))
    (by intro s n; pointwise [k0_pay8]) n
  simp only [hp] at hy
  generalize k0_pay9 (F := Ideal) _ _ _ _ = y at hy ⊢
  rw [pay17_at]
  have hu : ∀ q : Fin 512, q.val / 64 = n.val / 64 → y (ix2 s q)
      = normed (fun e => blockLane x0 x1 x2 x3 x4 s ⟨1792 + (n.val / 64 * 64 + e.val), by omega⟩) G ⟨q.val % 64, by omega⟩ := by
    intro q hq
    rw [hy q]
    simp only [hq]
  refine turn _ ar ac n.val (n.val % 128) (by omega) _ _ _ _ _ (hu n rfl) (fun h => ?_) (fun h => ?_) ?_ ?_
  · exact (hu _ (by simp only; omega)).trans (congrArg _ (Fin.ext (by simp only; omega)))
  · exact (hu _ (by simp only; omega)).trans (congrArg _ (Fin.ext (by simp only; omega)))
  · pointwise [k0_pay10]
    rw [loadC_at]
    exact hC _
  · pointwise [k0_pay11]
    rw [loadD_at]
    exact hD _

/-- The stored keys of the grouped-query attention, each head twice. -/
theorem storedKb_at (hS : Heads x5) (hG : ∀ n : Fin 512, x6 (ix2 1 n) = G ⟨n.val % 64, by omega⟩)
    (hC : ∀ l : Fin 128, x7 (ix2 s l) = if l.val % 64 < 32 then Ideal.cos (ar ⟨l.val % 16, by omega⟩) else Ideal.cos (ac ⟨l.val % 16, by omega⟩))
    (hD : ∀ l : Fin 128, x8 (ix2 s l) = if l.val % 64 < 16 then - Ideal.sin (ar ⟨l.val % 16, by omega⟩) else if l.val % 64 < 32 then Ideal.sin (ar ⟨l.val % 16, by omega⟩)
      else if l.val % 64 < 48 then - Ideal.sin (ac ⟨l.val % 16, by omega⟩) else Ideal.sin (ac ⟨l.val % 16, by omega⟩)) (n : Fin 256) :
    storedKb arg2 harg2 arg3 harg3 arg4 harg4 arg5 harg5 arg6 harg6 arg7 harg7 arg8 harg8 arg9 harg9 arg10 harg10 x0 x1 x2 x3 x4 x5 x6 x7 x8 (ix3 0 s n)
      = turned (normed (fun e => blockLane x0 x1 x2 x3 x4 s ⟨1024 + (n.val / 128 * 64 + e.val), by omega⟩) G) ar ac ⟨n.val % 64, by omega⟩ := by
  unfold storedKb
  have hy := fun q : Fin 128 => pay18_at (k0_pay5 (F := Ideal) (loadS arg7 harg7 x5)) (heads_load _ _ _ hS) G s (loadR1 arg8 harg8 x6)
    (by intro q; rw [loadR1_at]; exact hG _) (hid arg2 harg2 arg3 harg3 arg4 harg4 arg5 harg5 x0 x1 x2 x3) (loadN arg6 harg6 x4 1024 (by omega)) q
  simp only [hid_at, loadN_at] at hy
  generalize k0_pay18 (F := Ideal) _ _ _ _ = y at hy ⊢
  rw [pay23_at]
  unfold turnedKey
  have hu : ∀ q : Fin 128, q.val / 64 = n.val / 128 → y (ix2 s q)
      = normed (fun e => blockLane x0 x1 x2 x3 x4 s ⟨1024 + (n.val / 128 * 64 + e.val), by omega⟩) G ⟨q.val % 64, by omega⟩ := by
    intro q hq
    rw [hy q]
    simp only [hq]
    rfl
  refine (turn _ ar ac (n.val / 128 * 64 + n.val % 64) (n.val / 128 * 64 + n.val % 64) rfl _ _ _ _ _ (hu _ (by simp only; omega)) (fun h => ?_) (fun h => ?_) ?_ ?_).trans
    (congrArg _ (Fin.ext (by simp only; omega)))
  · exact (hu _ (by simp only; omega)).trans (congrArg _ (Fin.ext (by simp only; omega)))
  · exact (hu _ (by simp only; omega)).trans (congrArg _ (Fin.ext (by simp only; omega)))
  · pointwise [k0_pay19]
    rw [loadC_at]
    exact hC _
  · pointwise [k0_pay20]
    rw [loadD_at]
    exact hD _

/-- The stored values of the neighbourhood attention. -/
theorem valuesA_at (n : Fin 512) : valuesA arg2 harg2 arg3 harg3 arg4 harg4 arg5 harg5 arg6 harg6 x0 x1 x2 x3 x4 (ix2 n s) = blockLane x0 x1 x2 x3 x4 s ⟨512 + n.val, by omega⟩ := by
  unfold valuesA
  rw [pay41_at]
  simp only [hid_at, loadW_at]
  rfl

/-- The stored values of the grouped-query attention. -/
theorem valuesB_at (n : Fin 128) : valuesB arg2 harg2 arg3 harg3 arg4 harg4 arg5 harg5 arg6 harg6 x0 x1 x2 x3 x4 (ix2 n s) = blockLane x0 x1 x2 x3 x4 s ⟨1152 + n.val, by omega⟩ := by
  unfold valuesB
  rw [pay35_at]
  simp only [hid_at, loadN_at]
  rfl

end loads

end Cert.Proof.Proj

end
-- ==== Proof.ProjReference.lean ====
/- The projection's reference, read at one index of each of its six results. -/
module

public import proofs.«01_k».proof.Proof.Gen.ProjRefIdeal.Read
public import proofs.«01_k».proof.Proof.ProjRow

@[expose] public section

set_option maxRecDepth 16384

noncomputable section

namespace Cert.Proof.Proj

open Cert.ProjRefIdeal Cert.ProjRefIdeal.Gen Cert.ProjRefIdeal.Read Idealize.ShloMosaic Cert.Proof.Merge

variable (X : FVec Ideal S4x4096x1024 .f32) (M : FVec Ideal S4x3072 .f32) (G : FVec Ideal S2x1024 .f32) (W : FVec Ideal S2x1024x5376 .f32)
  (g : FVec Ideal S2x64 .f32)

/-- Lane `n` of token `(b, s)`'s projection: its modulated norm times column `n` of the second layer's weights. -/
def lane (b : Fin 4) (s : Fin 4096) (n : Fin 5376) : EReal :=
  proj (hidden (fun k => X (ix3 b s k)) (fun k => G (ix2 1 k)) (fun k => M (ix2 b ⟨1024 + k.val, by omega⟩)) (fun k => M (ix2 b ⟨k.val, by omega⟩)))
    fun k => W (ix3 1 k n)

/-- The row angles of token `s`, as the reference computes them. -/
def rowAngle (s : Fin 4096) (i : Fin 16) : EReal := (val_main_v58 (F := Ideal)) (ix4 0 s 0 i)
/-- The column angles of token `s`, as the reference computes them. -/
def colAngle (s : Fin 4096) (i : Fin 16) : EReal := (val_main_v65 (F := Ideal)) (ix4 0 s 0 i)

/-- The row angles by name. -/
theorem rowAngle_eq (s : Fin 4096) (i : Fin 16) : (val_main_v58 (F := Ideal)) (ix4 0 s 0 i) = rowAngle s i := by rw [rowAngle]
/-- The column angles by name. -/
theorem colAngle_eq (s : Fin 4096) (i : Fin 16) : (val_main_v65 (F := Ideal)) (ix4 0 s 0 i) = colAngle s i := by rw [colAngle]

/-- One element of the reference's modulated norm. -/
theorem v34_at (b : Fin 4) (s : Fin 4096) (k : Fin 1024) :
    val_main_v34 (F := Ideal) X M G (ix3 b s k)
      = hidden (fun k => X (ix3 b s k)) (fun k => G (ix2 1 k)) (fun k => M (ix2 b ⟨1024 + k.val, by omega⟩)) (fun k => M (ix2 b ⟨k.val, by omega⟩)) k := by
  unfold Merge.hidden
  pointwise [val_main_v34, val_main_v33, val_main_v32, val_main_v31, val_main_v30, val_main_v29, val_main_cst_2, val_main_v28,
    val_main_v27, val_main_v26, val_main_v25, val_main_v24, val_main_v23, val_main_v22, val_main_v21, val_main_cst_1, val_main_v20,
    val_main_v19, val_main_cst_0, val_main_v18, val_main_v17, val_main_cst, val_main_v16, val_main_v14, val_main_v13, val_main_v12,
    val_main_v3, val_main_v2]
  rw [mul_assoc _ (G _) _]

/-- One element of the reference's projection. -/
theorem v35_at (b : Fin 4) (s : Fin 4096) (n : Fin 5376) : val_main_v35 (F := Ideal) X M G W (ix3 b s n) = lane X M G W b s n := by
  unfold lane proj
  pointwise [val_main_v35, val_main_v1, val_main_v0]
  simp only [v34_at]

/-- One lane of the neighbourhood attention's normed keys. -/
theorem v79_at (b : Fin 4) (s : Fin 4096) (h : Fin 8) (d : Fin 64) : val_main_v79 (F := Ideal) X M G W g (ix4 b s h d)
    = normed (fun e => lane X M G W b s ⟨h.val * 64 + e.val, by omega⟩) (fun e => g (ix2 1 e)) d := by
  unfold normed
  pointwise [val_main_v79, val_main_v78, val_main_v77, val_main_v76, val_main_v75, val_main_v74, val_main_v73, val_main_v72, val_main_cst_9,
    val_main_v71, val_main_v70, val_main_cst_8, val_main_v69, val_main_v68, val_main_cst_7, val_main_v67, val_main_v66, val_main_v36,
    val_main_v5, val_main_v4]
  simp only [v35_at]

/-- One lane of the neighbourhood attention's normed queries. -/
theorem v94_at (b : Fin 4) (s : Fin 4096) (h : Fin 8) (d : Fin 64) : val_main_v94 (F := Ideal) X M G W g (ix4 b s h d)
    = normed (fun e => lane X M G W b s ⟨1280 + (h.val * 64 + e.val), by omega⟩) (fun e => g (ix2 1 e)) d := by
  unfold normed
  pointwise [val_main_v94, val_main_v93, val_main_v92, val_main_v91, val_main_v90, val_main_v89, val_main_v88, val_main_v87, val_main_cst_12,
    val_main_v86, val_main_v85, val_main_cst_11, val_main_v84, val_main_v83, val_main_cst_10, val_main_v82, val_main_v81, val_main_v40,
    val_main_v9, val_main_v8]
  simp only [v35_at]

/-- One lane of the grouped-query attention's normed keys. -/
theorem v109_at (b : Fin 4) (s : Fin 4096) (h : Fin 2) (d : Fin 64) : val_main_v109 (F := Ideal) X M G W g (ix4 b s h d)
    = normed (fun e => lane X M G W b s ⟨1024 + (h.val * 64 + e.val), by omega⟩) (fun e => g (ix2 1 e)) d := by
  unfold normed
  pointwise [val_main_v109, val_main_v108, val_main_v107, val_main_v106, val_main_v105, val_main_v104, val_main_v103, val_main_v102, val_main_cst_15,
    val_main_v101, val_main_v100, val_main_cst_14, val_main_v99, val_main_v98, val_main_cst_13, val_main_v97, val_main_v96, val_main_v38,
    val_main_v7, val_main_v6]
  simp only [v35_at]

/-- One lane of the grouped-query attention's normed queries. -/
theorem v152_at (b : Fin 4) (s : Fin 4096) (h : Fin 8) (d : Fin 64) : val_main_v152 (F := Ideal) X M G W g (ix4 b s h d)
    = normed (fun e => lane X M G W b s ⟨1792 + (h.val * 64 + e.val), by omega⟩) (fun e => g (ix2 1 e)) d := by
  unfold normed
  pointwise [val_main_v152, val_main_v151, val_main_v150, val_main_v149, val_main_v148, val_main_v147, val_main_v146, val_main_v145, val_main_cst_18,
    val_main_v144, val_main_v143, val_main_cst_17, val_main_v142, val_main_v141, val_main_cst_16, val_main_v140, val_main_v139, val_main_v41,
    val_main_v11, val_main_v10]
  simp only [v35_at]

/-- One lane of the grouped-query attention's turned keys. -/
theorem v138_at (b : Fin 4) (s : Fin 4096) (h : Fin 2) (d : Fin 64) : val_main_v138 (F := Ideal) X M G W g (ix4 b s h d)
    = turned (normed (fun e => lane X M G W b s ⟨1024 + (h.val * 64 + e.val), by omega⟩) (fun e => g (ix2 1 e))) (rowAngle s) (colAngle s) d := by
  pointwise [val_main_v138, val_main_v137, val_main_v136, val_main_v135, val_main_v134, val_main_v133, val_main_v132, val_main_v131, val_main_v130,
    val_main_v129, val_main_v128, val_main_v127, val_main_v126, val_main_v125, val_main_v124, val_main_v123, val_main_v122, val_main_v121,
    val_main_v120, val_main_v119, val_main_v118, val_main_v117, val_main_v116, val_main_v115, val_main_v114, val_main_v113, val_main_v112,
    val_main_v111, val_main_v110]
  simp only [v109_at, rowAngle_eq, colAngle_eq]
  exact turned_pieces (normed (fun e => lane X M G W b s ⟨1024 + (h.val * 64 + e.val), by omega⟩) (fun e => g (ix2 1 e))) (rowAngle s) (colAngle s) d

/-- One lane of the grouped-query attention's turned queries. -/
theorem v181_at (b : Fin 4) (s : Fin 4096) (h : Fin 8) (d : Fin 64) : val_main_v181 (F := Ideal) X M G W g (ix4 b s h d)
    = turned (normed (fun e => lane X M G W b s ⟨1792 + (h.val * 64 + e.val), by omega⟩) (fun e => g (ix2 1 e))) (rowAngle s) (colAngle s) d := by
  pointwise [val_main_v181, val_main_v180, val_main_v179, val_main_v178, val_main_v177, val_main_v176, val_main_v175, val_main_v174, val_main_v173,
    val_main_v172, val_main_v171, val_main_v170, val_main_v169, val_main_v168, val_main_v167, val_main_v166, val_main_v165, val_main_v164,
    val_main_v163, val_main_v162, val_main_v161, val_main_v160, val_main_v159, val_main_v158, val_main_v157, val_main_v156, val_main_v155,
    val_main_v154, val_main_v153]
  simp only [v152_at, rowAngle_eq, colAngle_eq]
  exact turned_pieces (normed (fun e => lane X M G W b s ⟨1792 + (h.val * 64 + e.val), by omega⟩) (fun e => g (ix2 1 e))) (rowAngle s) (colAngle s) d

section layouts
variable (b : Fin 4)

/-- Eight heads of 64 lanes laid side by side. -/
theorem heads_at (x : FVec Ideal S4x4096x8x64 .f32) (s : Fin 4096) (n : Fin 512) :
    truncf .bf16 (shapeCast S4x4096x512 x shapeCasts_S4x4096x8x64_S4x4096x512) bitsLt_bf16_f32 (ix3 b s n)
      = x (ix4 b s ⟨n.val / 64, by omega⟩ ⟨n.val % 64, by omega⟩) := by
  pointwise

/-- Two heads of 64 lanes, each twice over, laid side by side. -/
theorem doubled_at (x : FVec Ideal S4x4096x2x64 .f32) (s : Fin 4096) (n : Fin 256) :
    truncf .bf16 (shapeCast S4x4096x256 (concatenate S4x4096x2x128 3 [⟨S4x4096x2x64, x⟩, ⟨S4x4096x2x64, x⟩]
        concatenates_S4x4096x2x64_S4x4096x2x64_S4x4096x2x128_d3) shapeCasts_S4x4096x2x128_S4x4096x256) bitsLt_bf16_f32 (ix3 b s n)
      = x (ix4 b s ⟨n.val / 128, by omega⟩ ⟨n.val % 64, by omega⟩) := by
  pointwise
  split
  · exact congrArg x (congrArg (ix4 _ _ _) (Fin.ext (by simp only; omega)))
  · exact congrArg x (congrArg (ix4 _ _ _) (Fin.ext (by simp only; omega)))

/-- Lanes 512 to 1023 in slabs of 128 tokens, transposed. -/
theorem rslabA_at (x : FVec Ideal S4x4096x5376 .f32) (w : Fin 32) (n : Fin 512) (s : Fin 128) :
    truncf .bf16 (transpose S4x32x512x128 [0, 1, 3, 2] (shapeCast S4x32x128x512 (extractStridedSlice S4x4096x512 ![0, 0, 512] x
        slices_S4x4096x5376_S4x4096x512_0_0_512) shapeCasts_S4x4096x512_S4x32x128x512) transposes_S4x32x128x512_S4x32x512x128_0_1_3_2) bitsLt_bf16_f32
        (ix4 b w n s) = x (ix3 b ⟨w.val * 128 + s.val, by omega⟩ ⟨512 + n.val, by omega⟩) := by
  pointwise

/-- Lanes 1152 to 1279 in slabs of 256 tokens, transposed. -/
theorem rslabB_at (x : FVec Ideal S4x4096x5376 .f32) (w : Fin 16) (n : Fin 128) (s : Fin 256) :
    truncf .bf16 (transpose S4x16x128x256 [0, 1, 3, 2] (shapeCast S4x16x256x128 (extractStridedSlice S4x4096x128 ![0, 0, 1152] x
        slices_S4x4096x5376_S4x4096x128_0_0_1152) shapeCasts_S4x4096x128_S4x16x256x128) transposes_S4x16x256x128_S4x16x128x256_0_1_3_2) bitsLt_bf16_f32
        (ix4 b w n s) = x (ix3 b ⟨w.val * 256 + s.val, by omega⟩ ⟨1152 + n.val, by omega⟩) := by
  pointwise

end layouts

/-- The neighbourhood attention's keys, one lane. -/
theorem ka_at (b : Fin 4) (s : Fin 4096) (n : Fin 512) : val_main_v189 (F := Ideal) X M G W g (ix3 b s n)
    = normed (fun e => lane X M G W b s ⟨n.val / 64 * 64 + e.val, by omega⟩) (fun e => g (ix2 1 e)) ⟨n.val % 64, by omega⟩ := by
  rw [val_main_v189, val_main_v80, heads_at, v79_at]

/-- The neighbourhood attention's queries, one lane. -/
theorem qa_at (b : Fin 4) (s : Fin 4096) (n : Fin 512) : val_main_v193 (F := Ideal) X M G W g (ix3 b s n)
    = normed (fun e => lane X M G W b s ⟨1280 + (n.val / 64 * 64 + e.val), by omega⟩) (fun e => g (ix2 1 e)) ⟨n.val % 64, by omega⟩ := by
  rw [val_main_v193, val_main_v95, heads_at, v94_at]

/-- The grouped-query attention's queries, one lane. -/
theorem qb_at (b : Fin 4) (s : Fin 4096) (n : Fin 512) : val_main_v194 (F := Ideal) X M G W g (ix3 b s n)
    = turned (normed (fun e => lane X M G W b s ⟨1792 + (n.val / 64 * 64 + e.val), by omega⟩) (fun e => g (ix2 1 e))) (rowAngle s) (colAngle s)
        ⟨n.val % 64, by omega⟩ := by
  rw [val_main_v194, val_main_v182, heads_at, v181_at]

/-- The grouped-query attention's keys, each head twice over, one lane. -/
theorem kb_at (b : Fin 4) (s : Fin 4096) (n : Fin 256) : val_main_v191 (F := Ideal) X M G W g (ix3 b s n)
    = turned (normed (fun e => lane X M G W b s ⟨1024 + (n.val / 128 * 64 + e.val), by omega⟩) (fun e => g (ix2 1 e))) (rowAngle s) (colAngle s)
        ⟨n.val % 64, by omega⟩ := by
  rw [val_main_v191, val_main_v184, val_main_v183, doubled_at, v138_at]

/-- The neighbourhood attention's values, in slabs of 128 tokens, one lane. -/
theorem va_at (b : Fin 4) (w : Fin 32) (n : Fin 512) (s : Fin 128) : val_main_v190 (F := Ideal) X M G W (ix4 b w n s)
    = lane X M G W b ⟨w.val * 128 + s.val, by omega⟩ ⟨512 + n.val, by omega⟩ := by
  rw [val_main_v190, val_main_v186, val_main_v185, val_main_v37, rslabA_at, v35_at]

/-- The grouped-query attention's values, in slabs of 256 tokens, one lane. -/
theorem vb_at (b : Fin 4) (w : Fin 16) (n : Fin 128) (s : Fin 256) : val_main_v192 (F := Ideal) X M G W (ix4 b w n s)
    = lane X M G W b ⟨w.val * 256 + s.val, by omega⟩ ⟨1152 + n.val, by omega⟩ := by
  rw [val_main_v192, val_main_v188, val_main_v187, val_main_v39, rslabB_at, v35_at]

end Cert.Proof.Proj

end
-- ==== Proof.ProjHost.lean ====
/- The arrays that the projection's host code prepares for the kernel, read at one index. -/
module

public import proofs.«01_k».proof.Proof.ProjStep
public import proofs.«01_k».proof.Proof.ProjReference

@[expose] public section

set_option maxRecDepth 65536

noncomputable section

namespace Cert.Proof.Proj

open Cert.ProjIdeal Cert.ProjIdeal.Gen Idealize.ShloMosaic Idealize.ShloMosaic.TcCoe Idealize.SL.Sem

/-- The head of each of 256 lanes, as the host computes it: a floor division by 64. -/
def headOf : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- One lane's head is its index over 64. -/
theorem headOf_at (k : Fin 256) : headOf (ix1 k) = BitVec.ofNat 32 (k.val / 64) := by
  pointwise [headOf]
  revert k
  decide +kernel

/-- The table of cosines, tiled twice. -/
theorem cos_table (R C : FVec Ideal S4096x16 .f32) (h) (s : Fin 4096) (l : Fin 128) :
    shapeCast S4096x128 (broadcastInDim S1x4096x2x64 ![0, 1, 2, 3] bcast_S1x4096x1x64_S1x4096x2x64_0_1_2_3 (shapeCast S1x4096x1x64
      (concatenate S4096x64 1 [⟨S4096x16, (Host.cos R : FVec Ideal S4096x16 .f32)⟩, ⟨S4096x16, (Host.cos R : FVec Ideal S4096x16 .f32)⟩, ⟨S4096x16, (Host.cos C : FVec Ideal S4096x16 .f32)⟩, ⟨S4096x16, (Host.cos C : FVec Ideal S4096x16 .f32)⟩] h)
      shapeCasts_S4096x64_S1x4096x1x64)) shapeCasts_S1x4096x2x64_S4096x128 (ix2 s l)
      = if l.val % 64 < 32 then Ideal.cos (R (ix2 s ⟨l.val % 16, by omega⟩)) else Ideal.cos (C (ix2 s ⟨l.val % 16, by omega⟩)) := by
  pointwise
  by_cases h2 : l.val % 64 < 32
  · rw [if_pos h2]
    split_ifs <;> first
      | (exfalso; omega)
      | (refine congrArg Ideal.cos (congrArg R (congrArg (ix2 s) (Fin.ext ?_))); simp only; omega)
  · rw [if_neg h2]
    split_ifs <;> first
      | (exfalso; omega)
      | (refine congrArg Ideal.cos (congrArg C (congrArg (ix2 s) (Fin.ext ?_))); simp only; omega)

/-- The table of signed sines, tiled twice. -/
theorem sin_table (R C : FVec Ideal S4096x16 .f32) (h) (s : Fin 4096) (l : Fin 128) :
    shapeCast S4096x128 (broadcastInDim S1x4096x2x64 ![0, 1, 2, 3] bcast_S1x4096x1x64_S1x4096x2x64_0_1_2_3 (shapeCast S1x4096x1x64
      (concatenate S4096x64 1 [⟨S4096x16, (Host.negf (Host.sin R) : FVec Ideal S4096x16 .f32)⟩, ⟨S4096x16, (Host.sin R : FVec Ideal S4096x16 .f32)⟩, ⟨S4096x16, (Host.negf (Host.sin C) : FVec Ideal S4096x16 .f32)⟩, ⟨S4096x16, (Host.sin C : FVec Ideal S4096x16 .f32)⟩] h)
      shapeCasts_S4096x64_S1x4096x1x64)) shapeCasts_S1x4096x2x64_S4096x128 (ix2 s l)
      = if l.val % 64 < 16 then - Ideal.sin (R (ix2 s ⟨l.val % 16, by omega⟩)) else if l.val % 64 < 32 then Ideal.sin (R (ix2 s ⟨l.val % 16, by omega⟩))
        else if l.val % 64 < 48 then - Ideal.sin (C (ix2 s ⟨l.val % 16, by omega⟩)) else Ideal.sin (C (ix2 s ⟨l.val % 16, by omega⟩)) := by
  pointwise
  by_cases h1 : l.val % 64 < 16
  · rw [if_pos h1]
    split_ifs <;> first
      | (exfalso; omega)
      | (refine congrArg Neg.neg (congrArg Ideal.sin (congrArg R (congrArg (ix2 s) (Fin.ext ?_)))); simp only; omega)
  · rw [if_neg h1]
    by_cases h2 : l.val % 64 < 32
    · rw [if_pos h2]
      split_ifs <;> first
        | (exfalso; omega)
        | (refine congrArg Ideal.sin (congrArg R (congrArg (ix2 s) (Fin.ext ?_))); simp only; omega)
    · rw [if_neg h2]
      by_cases h3 : l.val % 64 < 48
      · rw [if_pos h3]
        split_ifs <;> first
          | (exfalso; omega)
          | (refine congrArg Neg.neg (congrArg Ideal.sin (congrArg C (congrArg (ix2 s) (Fin.ext ?_)))); simp only; omega)
      · rw [if_neg h3]
        split_ifs <;> first
          | (exfalso; omega)
          | (refine congrArg Ideal.sin (congrArg C (congrArg (ix2 s) (Fin.ext ?_))); simp only; omega)

/-- A gain's second layer, repeated over eight heads of 64 lanes. -/
def gainRow (g : FVec Ideal S2x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 (extractStridedSlice S1x64 ![1, 0] g slices_S2x64_S1x64_1_0) shapeCasts_S1x64_S64) shapeCasts_S64_S1x64)) shapeCasts_S8x64_S512)

/-- One lane of a repeated gain. -/
theorem gainRow_at (g : FVec Ideal S2x64 .f32) (z : Fin 1) (n : Fin 512) : gainRow g (ix2 z n) = g (ix2 1 ⟨n.val % 64, by omega⟩) := by
  pointwise [gainRow]

/-- The row angles as a table. -/
theorem rowAngle_57 (s : Fin 4096) (i : Fin 16) : rowAngle s i = Cert.ProjRefIdeal.Read.val_main_v57 (F := Ideal) (ix2 s i) := by
  unfold rowAngle
  pointwise [Cert.ProjRefIdeal.Read.val_main_v58]

/-- The column angles as a table. -/
theorem colAngle_64 (s : Fin 4096) (i : Fin 16) : colAngle s i = Cert.ProjRefIdeal.Read.val_main_v64 (F := Ideal) (ix2 s i) := by
  unfold colAngle
  pointwise [Cert.ProjRefIdeal.Read.val_main_v65]

variable (m : (ℓ : Loc nD τ sig) → Buf (Elt Ideal) ℓ) (c : Dev nD)

/-- The shift of each batch: the first third of its modulation. -/
theorem shifts (b : Fin 4) (z : Fin 1) (k : Fin 1024) : (V m c main_v1 : FVec Ideal S4x1x1024 .f32) (ix3 b z k) = m ((c.tc : Thread nD τ).loc main_arg1) (ix2 b ⟨k.val, by omega⟩) := by
  have hV : (V m c main_v1 : FVec Ideal S4x1x1024 .f32) = broadcastInDim S4x1x1024 ![0, 2] bcast_S4x1024_S4x1x1024_0_2
      (extractStridedSlice S4x1024 ![0, 0] (m ((c.tc : Thread nD τ).loc main_arg1) : FVec Ideal S4x3072 .f32) slices_S4x3072_S4x1024_0_0) := by
    unfold V
    simp only [hostOps0, hostOps0_1, hostOps0_2, hostOps0_3, hostOps0_4, hostOps0_5, hostOps0_6, List.flatten_cons, List.flatten_nil, List.append_nil, List.cons_append, List.nil_append]
    after_results
  rw [hV]
  pointwise

/-- The scale of each batch: the second third of its modulation. -/
theorem scales (b : Fin 4) (z : Fin 1) (k : Fin 1024) : (V m c main_v3 : FVec Ideal S4x1x1024 .f32) (ix3 b z k) = m ((c.tc : Thread nD τ).loc main_arg1) (ix2 b ⟨1024 + k.val, by omega⟩) := by
  have hV : (V m c main_v3 : FVec Ideal S4x1x1024 .f32) = broadcastInDim S4x1x1024 ![0, 2] bcast_S4x1024_S4x1x1024_0_2
      (extractStridedSlice S4x1024 ![0, 1024] (m ((c.tc : Thread nD τ).loc main_arg1) : FVec Ideal S4x3072 .f32) slices_S4x3072_S4x1024_0_1024) := by
    unfold V
    simp only [hostOps0, hostOps0_1, hostOps0_2, hostOps0_3, hostOps0_4, hostOps0_5, hostOps0_6, List.flatten_cons, List.flatten_nil, List.append_nil, List.cons_append, List.nil_append]
    after_results
  rw [hV]
  pointwise

/-- The norm's gain: its second layer. -/
theorem gain (z : Fin 1) (k : Fin 1024) : (V m c main_v69 : FVec Ideal S1x1024 .f32) (ix2 z k) = m ((c.tc : Thread nD τ).loc main_arg2) (ix2 1 k) := by
  have hV : (V m c main_v69 : FVec Ideal S1x1024 .f32) = broadcastInDim S1x1024 ![1] bcast_S1024_S1x1024_1
      (shapeCast S1024 (extractStridedSlice S1x1024 ![1, 0] (m ((c.tc : Thread nD τ).loc main_arg2) : FVec Ideal S2x1024 .f32) slices_S2x1024_S1x1024_1_0) shapeCasts_S1x1024_S1024) := by
    unfold V
    simp only [hostOps0, hostOps0_1, hostOps0_2, hostOps0_3, hostOps0_4, hostOps0_5, hostOps0_6, List.flatten_cons, List.flatten_nil, List.append_nil, List.cons_append, List.nil_append]
    after_results
    rfl
  rw [hV]
  pointwise

/-- The kernel's table of cosines holds those of the reference's angles. -/
theorem cosines (s : Fin 4096) (l : Fin 128) : (V m c main_v38 : FVec Ideal S4096x128 .f32) (ix2 s l)
    = if l.val % 64 < 32 then Ideal.cos (rowAngle s ⟨l.val % 16, by omega⟩) else Ideal.cos (colAngle s ⟨l.val % 16, by omega⟩) := by
  have hV : (V m c main_v38 : FVec Ideal S4096x128 .f32) = shapeCast S4096x128 (broadcastInDim S1x4096x2x64 ![0, 1, 2, 3] bcast_S1x4096x1x64_S1x4096x2x64_0_1_2_3 (shapeCast S1x4096x1x64
      (concatenate S4096x64 1 [⟨S4096x16, (Host.cos (Cert.ProjRefIdeal.Read.val_main_v57 (F := Ideal)) : FVec Ideal S4096x16 .f32)⟩, ⟨S4096x16, (Host.cos (Cert.ProjRefIdeal.Read.val_main_v57 (F := Ideal)) : FVec Ideal S4096x16 .f32)⟩, ⟨S4096x16, (Host.cos (Cert.ProjRefIdeal.Read.val_main_v64 (F := Ideal)) : FVec Ideal S4096x16 .f32)⟩, ⟨S4096x16, (Host.cos (Cert.ProjRefIdeal.Read.val_main_v64 (F := Ideal)) : FVec Ideal S4096x16 .f32)⟩] concatenates_S4096x16_S4096x16_S4096x16_S4096x16_S4096x64_d1)
      shapeCasts_S4096x64_S1x4096x1x64)) shapeCasts_S1x4096x2x64_S4096x128 := by
    unfold V
    simp only [hostOps0, hostOps0_1, hostOps0_2, hostOps0_3, hostOps0_4, hostOps0_5, hostOps0_6, List.flatten_cons, List.flatten_nil, List.append_nil, List.cons_append, List.nil_append]
    after_results
    rfl
  rw [hV, cos_table]
  simp only [rowAngle_57, colAngle_64]

/-- The kernel's table of signed sines holds those of the reference's angles. -/
theorem sines (s : Fin 4096) (l : Fin 128) : (V m c main_v41 : FVec Ideal S4096x128 .f32) (ix2 s l)
    = if l.val % 64 < 16 then - Ideal.sin (rowAngle s ⟨l.val % 16, by omega⟩) else if l.val % 64 < 32 then Ideal.sin (rowAngle s ⟨l.val % 16, by omega⟩)
      else if l.val % 64 < 48 then - Ideal.sin (colAngle s ⟨l.val % 16, by omega⟩) else Ideal.sin (colAngle s ⟨l.val % 16, by omega⟩) := by
  have hV : (V m c main_v41 : FVec Ideal S4096x128 .f32) = shapeCast S4096x128 (broadcastInDim S1x4096x2x64 ![0, 1, 2, 3] bcast_S1x4096x1x64_S1x4096x2x64_0_1_2_3 (shapeCast S1x4096x1x64
      (concatenate S4096x64 1 [⟨S4096x16, (Host.negf (Host.sin (Cert.ProjRefIdeal.Read.val_main_v57 (F := Ideal))) : FVec Ideal S4096x16 .f32)⟩, ⟨S4096x16, (Host.sin (Cert.ProjRefIdeal.Read.val_main_v57 (F := Ideal)) : FVec Ideal S4096x16 .f32)⟩, ⟨S4096x16, (Host.negf (Host.sin (Cert.ProjRefIdeal.Read.val_main_v64 (F := Ideal))) : FVec Ideal S4096x16 .f32)⟩, ⟨S4096x16, (Host.sin (Cert.ProjRefIdeal.Read.val_main_v64 (F := Ideal)) : FVec Ideal S4096x16 .f32)⟩] concatenates_S4096x16_S4096x16_S4096x16_S4096x16_S4096x64_d1)
      shapeCasts_S4096x64_S1x4096x1x64)) shapeCasts_S1x4096x2x64_S4096x128 := by
    unfold V
    simp only [hostOps0, hostOps0_1, hostOps0_2, hostOps0_3, hostOps0_4, hostOps0_5, hostOps0_6, List.flatten_cons, List.flatten_nil, List.append_nil, List.cons_append, List.nil_append]
    after_results
    rfl
  rw [hV, sin_table]
  simp only [rowAngle_57, colAngle_64]

/-- The kernel's matrix of heads is one where two lanes lie in the same 64 and zero elsewhere. -/
theorem heads : Heads (V m c main_v78 : FVec Ideal S256x256 .bf16) := by
  have hV : (V m c main_v78 : FVec Ideal S256x256 .bf16) = (uitofp .bf16 (cmpi .eq
      (broadcastInDim S256x256 ![0, 1] bcast_S256x1_S256x256_0_1 (broadcastInDim S256x1 ![0] bcast_S256_S256x1_0 headOf))
      (broadcastInDim S256x256 ![0, 1] bcast_S1x256_S256x256_0_1 (broadcastInDim S1x256 ![1] bcast_S256_S1x256_1 headOf))) : FVec Ideal S256x256 .bf16) := by
    unfold V
    simp only [hostOps0, hostOps0_1, hostOps0_2, hostOps0_3, hostOps0_4, hostOps0_5, hostOps0_6, List.flatten_cons, List.flatten_nil, List.append_nil, List.cons_append, List.nil_append]
    after_results
    rfl
  intro k q
  rw [hV]
  pointwise [headOf_at]
  have h : ∀ a b : Fin 4, IntOp.cmpi .eq (BitVec.ofNat 32 a.val) (BitVec.ofNat 32 b.val) = if a.val = b.val then 1#1 else 0#1 := by decide
  rw [h ⟨k.val / 64, by omega⟩ ⟨q.val / 64, by omega⟩]
  simp only
  split_ifs
  · show (((1#1 : BitVec 1).toNat : ℝ) : EReal) = 1
    simp
  · show (((0#1 : BitVec 1).toNat : ℝ) : EReal) = 0
    simp

/-- The four gains, in the order in which the kernel finds them. -/
theorem gains (r : Fin 4) (n : Fin 512) : (V m c main_v66 : FVec Ideal S4x512 .f32) (ix2 r n)
    = (![m ((c.tc : Thread nD τ).loc main_arg4), m ((c.tc : Thread nD τ).loc main_arg5), m ((c.tc : Thread nD τ).loc main_arg6), m ((c.tc : Thread nD τ).loc main_arg7)] : Fin 4 → FVec Ideal S2x64 .f32) r (ix2 1 ⟨n.val % 64, by omega⟩) := by
  have hV : (V m c main_v66 : FVec Ideal S4x512 .f32) = concatenate S4x512 0 [⟨S1x512, gainRow (m ((c.tc : Thread nD τ).loc main_arg4))⟩, ⟨S1x512, gainRow (m ((c.tc : Thread nD τ).loc main_arg5))⟩, ⟨S1x512, gainRow (m ((c.tc : Thread nD τ).loc main_arg6))⟩, ⟨S1x512, gainRow (m ((c.tc : Thread nD τ).loc main_arg7))⟩] concatenates_S1x512_S1x512_S1x512_S1x512_S4x512_d0 := by
    unfold V
    simp only [hostOps0, hostOps0_1, hostOps0_2, hostOps0_3, hostOps0_4, hostOps0_5, hostOps0_6, List.flatten_cons, List.flatten_nil, List.append_nil, List.cons_append, List.nil_append]
    after_results
    rfl
  rw [hV]
  fin_cases r <;> pointwise [gainRow_at]

end Cert.Proof.Proj

end
-- ==== Proof.ProjValue.lean ====
/- The arrays that the projection's kernel leaves: each is its reference's. -/
module

public import proofs.«01_k».proof.Proof.ProjBlock
public import proofs.«01_k».proof.Proof.ProjHost

@[expose] public section

set_option maxRecDepth 65536

noncomputable section

namespace Cert.Proof.Proj

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at grid point `t`: batch `t / 4`, row block `t % 4`; the weights' second layer throughout. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![1, 0, 0]
    ∧ win0_5.index t = ![0, 0] ∧ win0_6.index t = ![0, 0] ∧ win0_7.index t = ![t.val % 4, 0] ∧ win0_8.index t = ![t.val % 4, 0]
    ∧ win0_9.index t = ![t.val / 4, t.val % 4, 0] ∧ win0_10.index t = ![t.val / 4, t.val % 4, 0, 0] ∧ win0_11.index t = ![t.val / 4, t.val % 4, 0]
    ∧ win0_12.index t = ![t.val / 4, t.val % 4, 0, 0] ∧ win0_13.index t = ![t.val / 4, t.val % 4, 0] ∧ win0_14.index t = ![t.val / 4, t.val % 4, 0] :=
  (by decide +kernel : ∀ t : Fin grid0.N, _)

/-- The batch of grid point `t`. -/
def batch (t : Fin cfg0.N) : Fin 4 := ⟨t.val / 4, by have := t.isLt; change t.val < 16 at this; omega⟩

/-- The array row at which row `s` of point `t`'s block sits. -/
def arow (t : Fin cfg0.N) (s : Fin 1024) : Fin 4096 := ⟨t.val % 4 * 1024 + s.val, by omega⟩

/-! The reference's six results as functions of the kernel's argument arrays. -/
abbrev REFka (c : Dev nD) : FVec Ideal S4x4096x512 .bf16 := Cert.ProjRefIdeal.Read.val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- Its values of the neighbourhood attention. -/
abbrev REFva (c : Dev nD) : FVec Ideal S4x32x512x128 .bf16 := Cert.ProjRefIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3))
/-- Its keys of the grouped-query attention. -/
abbrev REFkb (c : Dev nD) : FVec Ideal S4x4096x256 .bf16 := Cert.ProjRefIdeal.Read.val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
/-- Its values of the grouped-query attention. -/
abbrev REFvb (c : Dev nD) : FVec Ideal S4x16x128x256 .bf16 := Cert.ProjRefIdeal.Read.val_main_v192 (F := Ideal) (m ((c.tc : Thread nD τ).loc main_arg0)) (m ((c.tc : Thread nD τ).loc main_arg1)) (m ((c.tc : Thread nD τ).loc main_arg2)) (m ((c.tc : Thread nD τ).loc main_arg3))
/-- Its queries of the neighbourhood attention. -/
abbrev REFqa (c : Dev nD) : FVec Ideal S4x4096x512 .bf16 := Cert.ProjRefIdeal.Read.val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
/-- Its queries of the grouped-query attention. -/
abbrev REFqb (c : Dev nD) : FVec Ideal S4x4096x512 .bf16 := Cert.ProjRefIdeal.Read.val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))

section
variable (c : Dev nD) (t : Fin cfg0.N)

/-- The tokens of point `t`. -/
theorem blk0 (s k : Fin 1024) : (iblk m c 0 t : FVec Ideal S1x1024x1024 .f32) (ix3 0 s k) = m ((c.tc : Thread nD τ).loc main_arg0) (ix3 (batch t) (arow t s) k) := by
  blk_point [iblk, V, idx t, batch, arow]

/-- The shift of point `t`'s batch. -/
theorem blk1 (k : Fin 1024) : (iblk m c 1 t : FVec Ideal S1x1x1024 .f32) (ix3 0 0 k) = m ((c.tc : Thread nD τ).loc main_arg1) (ix2 (batch t) ⟨k.val, by omega⟩) := by
  refine Eq.trans (b := (V m c main_v1 : FVec Ideal S4x1x1024 .f32) (ix3 (batch t) 0 k)) ?_ (shifts m c _ _ k)
  blk_point [iblk, idx t, batch, arow]

/-- The scale of point `t`'s batch. -/
theorem blk2 (k : Fin 1024) : (iblk m c 2 t : FVec Ideal S1x1x1024 .f32) (ix3 0 0 k) = m ((c.tc : Thread nD τ).loc main_arg1) (ix2 (batch t) ⟨1024 + k.val, by omega⟩) := by
  refine Eq.trans (b := (V m c main_v3 : FVec Ideal S4x1x1024 .f32) (ix3 (batch t) 0 k)) ?_ (scales m c _ _ k)
  blk_point [iblk, idx t, batch, arow]

/-- The second layer's gain of the norm. -/
theorem blk3 (k : Fin 1024) : (iblk m c 3 t : FVec Ideal S1x1024 .f32) (ix2 0 k) = m ((c.tc : Thread nD τ).loc main_arg2) (ix2 1 k) := by
  refine Eq.trans (b := (V m c main_v69 : FVec Ideal S1x1024 .f32) (ix2 0 k)) ?_ (gain m c _ k)
  blk_point [iblk, idx t, batch, arow]

/-- The second layer's weights, their first 2304 columns. -/
theorem blk4 (k : Fin 1024) (n : Fin 2304) : (X0_4 m c t : FVec Ideal S1x1024x2304 .bf16) (ix3 0 k n) = m ((c.tc : Thread nD τ).loc main_arg3) (ix3 1 k ⟨n.val, by omega⟩) := by
  unfold X0_4 Pipeline.Window.fill
  rw [dif_pos (moved0_4 t _)]
  blk_point [iblk, V, idx t, batch, arow]

/-- The matrix of heads. -/
theorem blk5 : Heads (iblk m c 5 t : FVec Ideal S256x256 .bf16) := by
  intro k q
  refine Eq.trans (b := (V m c main_v78 : FVec Ideal S256x256 .bf16) (ix2 k q)) ?_ (heads m c k q)
  blk_point [iblk, idx t, batch, arow]

/-- The four gains. -/
theorem blk6 (r : Fin 4) (n : Fin 512) : (iblk m c 6 t : FVec Ideal S4x512 .f32) (ix2 r n) = (V m c main_v66 : FVec Ideal S4x512 .f32) (ix2 r n) := by
  blk_point [iblk, idx t, batch, arow]

/-- The cosines of point `t`'s tokens. -/
theorem blk7 (s : Fin 1024) (l : Fin 128) : (iblk m c 7 t : FVec Ideal S1024x128 .f32) (ix2 s l)
    = if l.val % 64 < 32 then Ideal.cos (rowAngle (arow t s) ⟨l.val % 16, by omega⟩) else Ideal.cos (colAngle (arow t s) ⟨l.val % 16, by omega⟩) := by
  refine Eq.trans (b := (V m c main_v38 : FVec Ideal S4096x128 .f32) (ix2 (arow t s) l)) ?_ (cosines m c _ l)
  blk_point [iblk, idx t, batch, arow]

/-- The signed sines of point `t`'s tokens. -/
theorem blk8 (s : Fin 1024) (l : Fin 128) : (iblk m c 8 t : FVec Ideal S1024x128 .f32) (ix2 s l)
    = if l.val % 64 < 16 then - Ideal.sin (rowAngle (arow t s) ⟨l.val % 16, by omega⟩) else if l.val % 64 < 32 then Ideal.sin (rowAngle (arow t s) ⟨l.val % 16, by omega⟩)
      else if l.val % 64 < 48 then - Ideal.sin (colAngle (arow t s) ⟨l.val % 16, by omega⟩) else Ideal.sin (colAngle (arow t s) ⟨l.val % 16, by omega⟩) := by
  refine Eq.trans (b := (V m c main_v41 : FVec Ideal S4096x128 .f32) (ix2 (arow t s) l)) ?_ (sines m c _ l)
  blk_point [iblk, idx t, batch, arow]

/-- A lane of the block's projection is the reference's lane at the token where that row sits. -/
theorem lane_eq (s : Fin 1024) (n : Fin 2304) :
    blockLane (iblk m c 0 t : FVec Ideal S1x1024x1024 .f32) (iblk m c 1 t : FVec Ideal S1x1x1024 .f32) (iblk m c 2 t : FVec Ideal S1x1x1024 .f32)
      (iblk m c 3 t : FVec Ideal S1x1024 .f32) (X0_4 m c t : FVec Ideal S1x1024x2304 .bf16) s n
      = lane (m ((c.tc : Thread nD τ).loc main_arg0)) (m ((c.tc : Thread nD τ).loc main_arg1)) (m ((c.tc : Thread nD τ).loc main_arg2)) (m ((c.tc : Thread nD τ).loc main_arg3)) (batch t) (arow t s) ⟨n.val, by omega⟩ := by
  unfold blockLane lane
  simp only [blk0, blk1, blk2, blk3, blk4]

/-- What point `t` stores of the neighbourhood attention's keys. -/
theorem point9 (s : Fin 1024) (n : Fin 512) : (outsAt0 m c t).1 (ix3 0 s n) = REFka m c (ix3 (batch t) (arow t s) n) := by
  unfold outsAt0
  dsimp only
  refine (out9_at _ _ _ _ _ _ _ _ _ _ _ _ _ _ _ _ _ _ _ _ _ _ _ _ _ _ _ _ _ _ _ _ _ _ _ _ _ _ _ _ _ s n).trans
    ((storedKa_at _ _ _ _ _ _ _ _ _ _ _ _ _ _ _ _ _ _ _ _ _ (fun e => (m ((c.tc : Thread nD τ).loc main_arg4)) (ix2 1 e)) s (blk5 m c t)
      (fun n => (blk6 m c t 0 n).trans (gains m c 0 n)) n).trans ?_)
  simp only [lane_eq]
  exact (ka_at _ _ _ _ _ (batch t) (arow t s) n).symm

/-- What point `t` stores of the neighbourhood attention's queries. -/
theorem point13 (s : Fin 1024) (n : Fin 512) : (outsAt0 m c t).2.2.2.2.1 (ix3 0 s n) = REFqa m c (ix3 (batch t) (arow t s) n) := by
  unfold outsAt0
  dsimp only
  refine (out13_at _ _ _ _ _ _ _ _ _ _ _ _ _ _ _ _ _ _ _ _ _ _ _ _ _ _ _ _ _ _ _ _ _ _ _ _ _ _ _ _ _ s n).trans
    ((storedQa_at _ _ _ _ _ _ _ _ _ _ _ _ _ _ _ _ _ _ _ _ _ (fun e => (m ((c.tc : Thread nD τ).loc main_arg6)) (ix2 1 e)) s (blk5 m c t)
      (fun n => (blk6 m c t 2 n).trans (gains m c 2 n)) n).trans ?_)
  simp only [lane_eq]
  exact (qa_at _ _ _ _ _ (batch t) (arow t s) n).symm

/-- What point `t` stores of the grouped-query attention's queries. -/
theorem point14 (s : Fin 1024) (n : Fin 512) : (outsAt0 m c t).2.2.2.2.2 (ix3 0 s n) = REFqb m c (ix3 (batch t) (arow t s) n) := by
  unfold outsAt0
  dsimp only
  refine (out14_at _ _ _ _ _ _ _ _ _ _ _ _ _ _ _ _ _ _ _ _ _ _ _ _ _ _ _ _ _ _ _ _ _ _ _ _ _ _ _ _ _ s n).trans
    ((storedQb_at (G := fun e => (m ((c.tc : Thread nD τ).loc main_arg7)) (ix2 1 e)) (ar := rowAngle (arow t s)) (ac := colAngle (arow t s)) (s := s) (hS := blk5 m c t)
      (hG := fun n => (blk6 m c t 3 n).trans (gains m c 3 n)) (hC := blk7 m c t s) (hD := blk8 m c t s) (n := n) ..).trans ?_)
  simp only [lane_eq]
  exact (qb_at _ _ _ _ _ (batch t) (arow t s) n).symm

/-- What point `t` stores of the grouped-query attention's keys. -/
theorem point11 (s : Fin 1024) (n : Fin 256) : (outsAt0 m c t).2.2.1 (ix3 0 s n) = REFkb m c (ix3 (batch t) (arow t s) n) := by
  unfold outsAt0
  dsimp only
  refine (out11_at _ _ _ _ _ _ _ _ _ _ _ _ _ _ _ _ _ _ _ _ _ _ _ _ _ _ _ _ _ _ _ _ _ _ _ _ _ _ _ _ _ s n).trans
    ((storedKb_at (G := fun e => (m ((c.tc : Thread nD τ).loc main_arg5)) (ix2 1 e)) (ar := rowAngle (arow t s)) (ac := colAngle (arow t s)) (s := s) (hS := blk5 m c t)
      (hG := fun n => (blk6 m c t 1 n).trans (gains m c 1 n)) (hC := blk7 m c t s) (hD := blk8 m c t s) (n := n) ..).trans ?_)
  simp only [lane_eq]
  exact (kb_at _ _ _ _ _ (batch t) (arow t s) n).symm

/-- What point `t` stores of the neighbourhood attention's values. -/
theorem point10 (j : Fin 8) (n : Fin 512) (s : Fin 128) : (outsAt0 m c t).2.1 (ix4 0 j n s) = REFva m c (ix4 (batch t) ⟨t.val % 4 * 8 + j.val, by omega⟩ n s) := by
  unfold outsAt0
  dsimp only
  refine (out10_at _ _ _ _ _ _ _ _ _ _ _ _ _ _ _ _ _ _ _ _ _ _ _ _ _ _ _ _ _ _ _ _ _ _ _ _ _ _ _ _ _ j n s).trans ((valuesA_at (n := n) ..).trans ?_)
  rw [lane_eq]
  refine Eq.trans ?_ (va_at _ _ _ _ (batch t) _ n s).symm
  exact congrArg (fun a => lane (m ((c.tc : Thread nD τ).loc main_arg0)) (m ((c.tc : Thread nD τ).loc main_arg1)) (m ((c.tc : Thread nD τ).loc main_arg2)) (m ((c.tc : Thread nD τ).loc main_arg3)) (batch t) a ⟨512 + n.val, by omega⟩) (Fin.ext (by simp only [arow]; omega))

/-- What point `t` stores of the grouped-query attention's values. -/
theorem point12 (j : Fin 4) (n : Fin 128) (s : Fin 256) : (outsAt0 m c t).2.2.2.1 (ix4 0 j n s) = REFvb m c (ix4 (batch t) ⟨t.val % 4 * 4 + j.val, by omega⟩ n s) := by
  unfold outsAt0
  dsimp only
  refine (out12_at _ _ _ _ _ _ _ _ _ _ _ _ _ _ _ _ _ _ _ _ _ _ _ _ _ _ _ _ _ _ _ _ _ _ _ _ _ _ _ _ _ j n s).trans ((valuesB_at (n := n) ..).trans ?_)
  rw [lane_eq]
  refine Eq.trans ?_ (vb_at _ _ _ _ (batch t) _ n s).symm
  exact congrArg (fun a => lane (m ((c.tc : Thread nD τ).loc main_arg0)) (m ((c.tc : Thread nD τ).loc main_arg1)) (m ((c.tc : Thread nD τ).loc main_arg2)) (m ((c.tc : Thread nD τ).loc main_arg3)) (batch t) a ⟨1152 + n.val, by omega⟩) (Fin.ext (by simp only [arow]; omega))
end

/-- The keys of the neighbourhood attention after the run are the reference's. -/
theorem final9 (c : Dev nD) : (dats m 0 c).arrAt 9 (cfgs 0).N = REFka m c := by
  refine (dats m 0 c).arrAt_eq_of_covers 9 _ (by decide +kernel) fun t _ y => ?_
  blk_simp
  rw [after0_9]
  have he : (win0_9.blk t).view.emb y = ix3 (batch t) (arow t (y 1)) (y 2) := by
    blk_ext [idx t, batch, arow]
  have hy : y = ix3 0 (y 1) (y 2) := by blk_ext
  refine (congrArg _ hy).trans ((point9 m c t (y 1) (y 2)).trans ?_)
  exact (congrArg (REFka m c) he).symm

/-- The keys of the grouped-query attention after the run are the reference's. -/
theorem final11 (c : Dev nD) : (dats m 0 c).arrAt 11 (cfgs 0).N = REFkb m c := by
  refine (dats m 0 c).arrAt_eq_of_covers 11 _ (by decide +kernel) fun t _ y => ?_
  blk_simp
  rw [after0_11]
  have he : (win0_11.blk t).view.emb y = ix3 (batch t) (arow t (y 1)) (y 2) := by
    blk_ext [idx t, batch, arow]
  have hy : y = ix3 0 (y 1) (y 2) := by blk_ext
  refine (congrArg _ hy).trans ((point11 m c t (y 1) (y 2)).trans ?_)
  exact (congrArg (REFkb m c) he).symm

/-- The queries of the neighbourhood attention after the run are the reference's. -/
theorem final13 (c : Dev nD) : (dats m 0 c).arrAt 13 (cfgs 0).N = REFqa m c := by
  refine (dats m 0 c).arrAt_eq_of_covers 13 _ (by decide +kernel) fun t _ y => ?_
  blk_simp
  rw [after0_13]
  have he : (win0_13.blk t).view.emb y = ix3 (batch t) (arow t (y 1)) (y 2) := by
    blk_ext [idx t, batch, arow]
  have hy : y = ix3 0 (y 1) (y 2) := by blk_ext
  refine (congrArg _ hy).trans ((point13 m c t (y 1) (y 2)).trans ?_)
  exact (congrArg (REFqa m c) he).symm

/-- The queries of the grouped-query attention after the run are the reference's. -/
theorem final14 (c : Dev nD) : (dats m 0 c).arrAt 14 (cfgs 0).N = REFqb m c := by
  refine (dats m 0 c).arrAt_eq_of_covers 14 _ (by decide +kernel) fun t _ y => ?_
  blk_simp
  rw [after0_14]
  have he : (win0_14.blk t).view.emb y = ix3 (batch t) (arow t (y 1)) (y 2) := by
    blk_ext [idx t, batch, arow]
  have hy : y = ix3 0 (y 1) (y 2) := by blk_ext
  refine (congrArg _ hy).trans ((point14 m c t (y 1) (y 2)).trans ?_)
  exact (congrArg (REFqb m c) he).symm

/-- The values of the neighbourhood attention after the run are the reference's. -/
theorem final10 (c : Dev nD) : (dats m 0 c).arrAt 10 (cfgs 0).N = REFva m c := by
  refine (dats m 0 c).arrAt_eq_of_covers 10 _ (by decide +kernel) fun t _ y => ?_
  blk_simp
  rw [after0_10]
  have hj : (y 1).val < 8 := (y 1).isLt
  have he : (win0_10.blk t).view.emb y = ix4 (batch t) ⟨t.val % 4 * 8 + (y 1).val, by omega⟩ (y 2) (y 3) := by
    blk_ext [idx t, batch]
  have hy : y = ix4 0 (y 1) (y 2) (y 3) := by blk_ext
  refine (congrArg _ hy).trans ((point10 m c t (y 1) (y 2) (y 3)).trans ?_)
  exact (congrArg (REFva m c) he).symm

/-- The values of the grouped-query attention after the run are the reference's. -/
theorem final12 (c : Dev nD) : (dats m 0 c).arrAt 12 (cfgs 0).N = REFvb m c := by
  refine (dats m 0 c).arrAt_eq_of_covers 12 _ (by decide +kernel) fun t _ y => ?_
  blk_simp
  rw [after0_12]
  have hj : (y 1).val < 4 := (y 1).isLt
  have he : (win0_12.blk t).view.emb y = ix4 (batch t) ⟨t.val % 4 * 4 + (y 1).val, by omega⟩ (y 2) (y 3) := by
    blk_ext [idx t, batch]
  have hy : y = ix4 0 (y 1) (y 2) (y 3) := by blk_ext
  refine (congrArg _ hy).trans ((point12 m c t (y 1) (y 2) (y 3)).trans ?_)
  exact (congrArg (REFvb m c) he).symm

end Cert.Proof.Proj

end
-- ==== Proof.ProjClaim.lean ====
/- The projection's value claim: kernel and reference end with equal results. -/
module

public import proofs.«01_k».proof.Defs
public import proofs.«01_k».proof.Proof.ProjValue
public import proofs.«01_k».proof.Proof.Gen.ProjIdeal
public import proofs.«01_k».proof.Proof.Gen.ProjRefIdeal
public import Idealize.ShloMosaic.Lib.Claim

@[expose] public section

set_option maxRecDepth 16384

noncomputable section

namespace Cert.Proof.Proj

open Idealize.ShloMosaic Idealize.ShloMosaic.TcCoe Idealize.SL.Sem

section
open Cert.ProjRefIdeal Cert.ProjRefIdeal.Read

/-- What the reference ends with: each of its six results as a named function of its arguments, and the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189) = val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v190) = val_main_v190 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v191) = val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v192) = val_main_v192 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine θ_run_mono (Cert.ProjRefIdeal.Value.run m ρ) ?_
  intro r hr c
  obtain ⟨h189, h190, h191, h192, h193, h194, hargs⟩ := hr c
  exact ⟨h189.trans (val_main_v189_eq _), h190.trans (val_main_v190_eq _), h191.trans (val_main_v191_eq _), h192.trans (val_main_v192_eq _), h193.trans (val_main_v193_eq _), h194.trans (val_main_v194_eq _), hargs⟩

end

section
open Cert.ProjIdeal Cert.ProjIdeal.Gen

/-- What the kernel ends with: its six results are the reference's functions of its arguments, and the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79_0) = REFka m c
      ∧ r.2.mem ((c.tc : Thread nD τ).loc main_v79_1) = REFva m c
      ∧ r.2.mem ((c.tc : Thread nD τ).loc main_v79_2) = REFkb m c
      ∧ r.2.mem ((c.tc : Thread nD τ).loc main_v79_3) = REFvb m c
      ∧ r.2.mem ((c.tc : Thread nD τ).loc main_v79_4) = REFqa m c
      ∧ r.2.mem ((c.tc : Thread nD τ).loc main_v79_5) = REFqb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine θ_run_mono (θ_run_and (Cert.ProjIdeal.Gen.run_main m ρ) (Cert.ProjIdeal.Gen.frame m ρ)) ?_
  intro r hr c
  have h := (hr.1 c).1
  exact ⟨(h 9).trans (final9 m c), (h 10).trans (final10 m c), (h 11).trans (final11 m c), (h 12).trans (final12 m c),
    (h 13).trans (final13 m c), (h 14).trans (final14 m c), hr.2.1 c⟩

end

/-- The projection call and its reference end with equal results, all six, from equal arguments. -/
theorem algebraic : Cert.algebraic_ProjIdeal_ProjRefIdeal (hProjIdeal := Cert.ProjIdeal.Gen.facts) (hProjRefIdeal := Cert.ProjRefIdeal.Gen.facts) := by
  intro m g m' g' _ hagree
  refine ⟨fun c => REFka m c, fun c => REFva m c, fun c => REFkb m c, fun c => REFvb m c, fun c => REFqa m c, fun c => REFqb m c, kernel_run m g, ?_⟩
  refine θ_run_mono (reference_run m' g') ?_
  intro r hr c
  obtain ⟨h189, h190, h191, h192, h193, h194, hargs⟩ := hr c
  obtain ⟨a0, a1, a2, a3, a4, a5, a6, a7⟩ := hagree c
  rw [a0, a1, a2, a3] at h189 h190 h191 h192 h193 h194
  rw [a4] at h189
  rw [a5] at h191
  rw [a6] at h193
  rw [a7] at h194
  exact ⟨h189, h190, h191, h192, h193, h194, hargs⟩

end Cert.Proof.Proj

end
-- ==== Proof.lean ====
/- The proof of everything claimed: the frames of the nine programs, the two fields' agreement for the three kernels, and the
   three value claims. -/
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_gqa_finite
public import proofs.«01_k».proof.Proof.GqaClaim
public import proofs.«01_k».proof.Proof.MergeClaim
public import proofs.«01_k».proof.Proof.ProjClaim
public import Idealize.ShloMosaic.Adequacy
public import Idealize.ShloMosaic.Init

@[expose] public section

noncomputable section

namespace Cert.Proof

open Idealize.ShloMosaic Idealize.SL.Sem

/-- The attention's reference runs, leaves its arguments, and uses no semaphore. -/
theorem gqaRef : Cert.quiescent_GqaRefIdeal (hGqaRefIdeal := Cert.GqaRefIdeal.Gen.facts) := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- The merge's reference runs, leaves its arguments, and uses no semaphore. -/
theorem mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The projection's reference runs, leaves its arguments, and uses no semaphore. -/
theorem projRef : Cert.quiescent_ProjRefIdeal (hProjRefIdeal := Cert.ProjRefIdeal.Gen.facts) := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

/-- Everything that is claimed. -/
theorem claim : Cert.Claim :=
  ⟨Cert.Gqa.Gen.facts, Cert.GqaIdeal.Gen.facts, Cert.GqaRefIdeal.Gen.facts, Cert.Merge.Gen.facts, Cert.MergeIdeal.Gen.facts,
    Cert.MergeRefIdeal.Gen.facts, Cert.Proj.Gen.facts, Cert.ProjIdeal.Gen.facts, Cert.ProjRefIdeal.Gen.facts, Cert.Pre_gqa_finite.Gen.facts,
    fun m ρ _ => Cert.Gqa.Gen.frame m ρ,
    fun m ρ _ => Cert.GqaIdeal.Gen.frame m ρ,
    fun m ρ _ => Cert.GqaIdeal.Gen.frame m ρ,
    gqaRef,
    fun m ρ _ => gqaRef m ρ trivial,
    fun m ρ _ => Cert.Merge.Gen.frame m ρ,
    fun m ρ _ => Cert.MergeIdeal.Gen.frame m ρ,
    mergeRef,
    fun m ρ _ => Cert.Proj.Gen.frame m ρ,
    fun m ρ _ => Cert.ProjIdeal.Gen.frame m ρ,
    projRef,
    IdealRules.named_const.statement Cert.GqaIdeal.κ "qk_scale" .f32 0x3E38AA3B#32 _ rfl,
    Gqa.algebraic,
    trivial,
    Merge.algebraic,
    trivial,
    Proj.algebraic⟩

end Cert.Proof

end
